-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_boxes [hPre_proper_boxes : Cert.Pre_proper_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_boxes [hPre_proper_boxes : Cert.Pre_proper_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_proper_boxes [hKernelIdeal : Cert.KernelIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_proper_boxes [hReferenceIdeal : Cert.ReferenceIdeal.Facts] [hPre_proper_boxes : Cert.Pre_proper_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_proper_boxes [hKernelIdeal : Cert.KernelIdeal.Facts] [hReferenceIdeal : Cert.ReferenceIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_proper_boxes : Cert.Pre_proper_boxes.Facts),
    quiescent_Kernel (hKernel := hKernel)
    ∧ quiescent_KernelIdeal (hKernelIdeal := hKernelIdeal)
    ∧ quiescent_KernelIdeal_pre_proper_boxes (hKernelIdeal := hKernelIdeal) (hPre_proper_boxes := hPre_proper_boxes)
    ∧ quiescent_ReferenceIdeal (hReferenceIdeal := hReferenceIdeal)
    ∧ quiescent_ReferenceIdeal_pre_proper_boxes (hReferenceIdeal := hReferenceIdeal) (hPre_proper_boxes := hPre_proper_boxes)
    ∧ preserves_Kernel_KernelIdeal
    ∧ algebraic_KernelIdeal_ReferenceIdeal_pre_proper_boxes (hKernelIdeal := hKernelIdeal) (hReferenceIdeal := hReferenceIdeal) (hPre_proper_boxes := hPre_proper_boxes)
-- ==== Pre_proper_boxes.lean ====
abbrev S20000x4 : Shape := ⟨2, ![20000, 4]⟩
abbrev S20000 : Shape := ⟨1, ![20000]⟩
abbrev S20000x1 : Shape := ⟨2, ![20000, 1]⟩
abbrev S_ : Shape := ⟨0, ![]⟩

class Facts : Prop where
  slices_S20000x4_S20000x1_0_2 : S20000x4.Slices ![0, 2] S20000x1
  shapeCasts_S20000x1_S20000 : S20000x1.ShapeCasts S20000
  slices_S20000x4_S20000x1_0_0 : S20000x4.Slices ![0, 0] S20000x1
  slices_S20000x4_S20000x1_0_3 : S20000x4.Slices ![0, 3] S20000x1
  slices_S20000x4_S20000x1_0_1 : S20000x4.Slices ![0, 1] S20000x1
  bcast_S_S20000x4 : S_.BroadcastsInDim S20000x4 (![] : Fin 0 → Fin S20000x4.rank)
  bcast_S_S20000 : S_.BroadcastsInDim S20000 (![] : Fin 0 → Fin S20000.rank)

variable [Facts]

def fn_part1 {F : FTy → Type} [FloatOps F] (main_v14 : IVec S20000x4 1) (main_v16 : IVec S20000 1) (main_v19 : IVec S20000 1) : IVec S20000x4 1 × IVec S20000 1 :=
  let main_v20 : IVec S20000 1 := andi main_v16 main_v19
  (main_v14, main_v20)

def fn {F : FTy → Type} [FloatOps F] (main_arg0 : FVec F S20000x4 .f32) (main_arg1 : FVec F S20000 .f32) : IVec S20000x4 1 × IVec S20000 1 :=
  let main_v0 : FVec F S20000x1 .f32 := (extractStridedSlice S20000x1 ![0, 2] · slices_S20000x4_S20000x1_0_2) main_arg0
  let main_v1 : FVec F S20000 .f32 := shapeCast S20000 main_v0 shapeCasts_S20000x1_S20000
  let main_v2 : FVec F S20000x1 .f32 := (extractStridedSlice S20000x1 ![0, 0] · slices_S20000x4_S20000x1_0_0) main_arg0
  let main_v3 : FVec F S20000 .f32 := shapeCast S20000 main_v2 shapeCasts_S20000x1_S20000
  let main_v4 : FVec F S20000 .f32 := subf main_v1 main_v3
  let main_v5 : FVec F S20000x1 .f32 := (extractStridedSlice S20000x1 ![0, 3] · slices_S20000x4_S20000x1_0_3) main_arg0
  let main_v6 : FVec F S20000 .f32 := shapeCast S20000 main_v5 shapeCasts_S20000x1_S20000
  let main_v7 : FVec F S20000x1 .f32 := (extractStridedSlice S20000x1 ![0, 1] · slices_S20000x4_S20000x1_0_1) main_arg0
  let main_v8 : FVec F S20000 .f32 := shapeCast S20000 main_v7 shapeCasts_S20000x1_S20000
  let main_v9 : FVec F S20000 .f32 := subf main_v6 main_v8
  let main_cst : FVec F S_ .f32 := constant S_ .f32 0xF149F2CA#32
  let main_v10 : FVec F S20000x4 .f32 := broadcastInDim S20000x4 ![] bcast_S_S20000x4 main_cst
  let main_v11 : IVec S20000x4 1 := cmpf .oge main_arg0 main_v10
  let main_cst_0 : FVec F S_ .f32 := constant S_ .f32 0x7F800000#32
  let main_v12 : FVec F S20000x4 .f32 := broadcastInDim S20000x4 ![] bcast_S_S20000x4 main_cst_0
  let main_v13 : IVec S20000x4 1 := cmpf .olt main_arg0 main_v12
  let main_v14 : IVec S20000x4 1 := andi main_v11 main_v13
  let main_cst_1 : FVec F S_ .f32 := constant S_ .f32 0x00000000#32
  let main_v15 : FVec F S20000 .f32 := broadcastInDim S20000 ![] bcast_S_S20000 main_cst_1
  let main_v16 : IVec S20000 1 := cmpf .ogt main_v4 main_v15
  let main_v17 : FVec F S20000 .f32 := mulf main_v4 main_v9
  let main_cst_2 : FVec F S_ .f32 := constant S_ .f32 0x3089705F#32
  let main_v18 : FVec F S20000 .f32 := broadcastInDim S20000 ![] bcast_S_S20000 main_cst_2
  let main_v19 : IVec S20000 1 := cmpf .ogt main_v17 main_v18
  fn_part1 (F := F) main_v14 main_v16 main_v19
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S20480 : Shape := ⟨1, ![20480]⟩
abbrev S160x128 : Shape := ⟨2, ![160, 128]⟩
abbrev S300x1 : Shape := ⟨2, ![300, 1]⟩
abbrev S1x160x128 : Shape := ⟨3, ![1, 160, 128]⟩
abbrev S1 : Shape := ⟨1, ![1]⟩
abbrev S1x1x1 : Shape := ⟨3, ![1, 1, 1]⟩
abbrev S1x1 : Shape := ⟨2, ![1, 1]⟩
abbrev S300x5 : Shape := ⟨2, ![300, 5]⟩

abbrev nBuf : Space → Nat
  | .hbm => 36
  | .vmem => 13
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000x1, .f32⟩
  | .hbm, ⟨3, _⟩ => ⟨S20000, .f32⟩
  | .hbm, ⟨4, _⟩ => ⟨S_, .i32⟩
  | .hbm, ⟨5, _⟩ => ⟨S_, .f32⟩
  | .hbm, ⟨6, _⟩ => ⟨S20480, .f32⟩
  | .hbm, ⟨7, _⟩ => ⟨S160x128, .f32⟩
  | .hbm, ⟨8, _⟩ => ⟨S20000x1, .f32⟩
  | .hbm, ⟨9, _⟩ => ⟨S20000, .f32⟩
  | .hbm, ⟨10, _⟩ => ⟨S_, .i32⟩
  | .hbm, ⟨11, _⟩ => ⟨S_, .f32⟩
  | .hbm, ⟨12, _⟩ => ⟨S20480, .f32⟩
  | .hbm, ⟨13, _⟩ => ⟨S160x128, .f32⟩
  | .hbm, ⟨14, _⟩ => ⟨S20000x1, .f32⟩
  | .hbm, ⟨15, _⟩ => ⟨S20000, .f32⟩
  | .hbm, ⟨16, _⟩ => ⟨S_, .i32⟩
  | .hbm, ⟨17, _⟩ => ⟨S_, .f32⟩
  | .hbm, ⟨18, _⟩ => ⟨S20480, .f32⟩
  | .hbm, ⟨19, _⟩ => ⟨S160x128, .f32⟩
  | .hbm, ⟨20, _⟩ => ⟨S20000x1, .f32⟩
  | .hbm, ⟨21, _⟩ => ⟨S20000, .f32⟩
  | .hbm, ⟨22, _⟩ => ⟨S_, .i32⟩
  | .hbm, ⟨23, _⟩ => ⟨S_, .f32⟩
  | .hbm, ⟨24, _⟩ => ⟨S20480, .f32⟩
  | .hbm, ⟨25, _⟩ => ⟨S160x128, .f32⟩
  | .hbm, ⟨26, _⟩ => ⟨S_, .f32⟩
  | .hbm, ⟨27, _⟩ => ⟨S_, .f32⟩
  | .hbm, ⟨28, _⟩ => ⟨S20480, .f32⟩
  | .hbm, ⟨29, _⟩ => ⟨S160x128, .f32⟩
  | .hbm, ⟨30, _⟩ => ⟨S300x1, .f32⟩
  | .hbm, ⟨31, _⟩ => ⟨S300x1, .f32⟩
  | .hbm, ⟨32, _⟩ => ⟨S300x1, .f32⟩
  | .hbm, ⟨33, _⟩ => ⟨S300x1, .f32⟩
  | .hbm, ⟨34, _⟩ => ⟨S300x1, .f32⟩
  | .hbm, ⟨35, _⟩ => ⟨S300x5, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S300x1, .f32⟩
  | .local _ .vmem, ⟨6, _⟩ => ⟨S300x1, .f32⟩
  | .local _ .vmem, ⟨7, _⟩ => ⟨S300x1, .f32⟩
  | .local _ .vmem, ⟨8, _⟩ => ⟨S300x1, .f32⟩
  | .local _ .vmem, ⟨9, _⟩ => ⟨S300x1, .f32⟩
  | .local _ .vmem, ⟨10, _⟩ => ⟨S160x128, .f32⟩
  | .local _ .vmem, ⟨11, _⟩ => ⟨S160x128, .f32⟩
  | .local _ .vmem, ⟨12, _⟩ => ⟨S160x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_call3_v0 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_call4_v0 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c150_i32 : BitVec 32 := 150#32
  let v102 : BitVec 32 := Scalar.addi c0_i32 c150_i32
  let c1_i32 : BitVec 32 := 1#32
  ⟨c0_i32, v102, c1_i32⟩
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c2_i32 : BitVec 32 := 2#32
  let v104 : BitVec 32 := Scalar.muli arg13 c2_i32
  let v111 : Index := Scalar.indexCast v104
  let c0_49 : Index := 0#32
  ![v111.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c2_i32 : BitVec 32 := 2#32
  let v104 : BitVec 32 := Scalar.muli arg13 c2_i32
  let c1_i32_150 : BitVec 32 := 1#32
  let v391 : BitVec 32 := Scalar.addi v104 c1_i32_150
  let v394 : Index := Scalar.indexCast v391
  let c0_151 : Index := 0#32
  ![v394.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c2_i32 : BitVec 32 := 2#32
  let v104 : BitVec 32 := Scalar.muli arg13 c2_i32
  let c1_i32_131 : BitVec 32 := 1#32
  let v351 : BitVec 32 := Scalar.addi v104 c1_i32_131
  let v354 : Index := Scalar.indexCast v351
  let c0_132 : Index := 0#32
  ![v354.toNat, 0]
abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S300x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S300x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S300x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S300x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S300x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S300 : Shape := ⟨1, ![300]⟩
abbrev S1 : Shape := ⟨1, ![1]⟩
abbrev S1x4 : Shape := ⟨2, ![1, 4]⟩
abbrev S4 : Shape := ⟨1, ![4]⟩
abbrev S20000x1 : Shape := ⟨2, ![20000, 1]⟩
abbrev S300x1 : Shape := ⟨2, ![300, 1]⟩
abbrev S300x4 : Shape := ⟨2, ![300, 4]⟩
abbrev S300x5 : Shape := ⟨2, ![300, 5]⟩

abbrev nBuf : Space → Nat
  | .hbm => 153
  | .vmem => 0
  | .smem => 0
  | _ => 0

abbrev hbmTy0_0 (i : Nat) : BufTy := match i % 128 with
  | 0 => ⟨S20000x4, .f32⟩
  | 1 => ⟨S20000, .f32⟩
  | 2 => ⟨S_, .f32⟩
  | 3 => ⟨S_, .i32⟩
  | 4 => ⟨S300, .i32⟩
  | 5 => ⟨S_, .i1⟩
  | 6 => ⟨S300, .i1⟩
  | 7 => ⟨S_, .i32⟩
  | 8 => ⟨S_, .f32⟩
  | 9 => ⟨S20000x4, .f32⟩
  | 10 => ⟨S_, .i32⟩
  | 11 => ⟨S20000, .f32⟩
  | 12 => ⟨S300, .i32⟩
  | 13 => ⟨S300, .i1⟩
  | 14 => ⟨S_, .i32⟩
  | 15 => ⟨S_, .i1⟩
  | 16 => ⟨S20000, .i32⟩
  | 17 => ⟨S_, .f32⟩
  | 18 => ⟨S_, .i32⟩
  | 19 => ⟨S_, .f32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S1, .f32⟩
  | 27 => ⟨S_, .f32⟩
  | 28 => ⟨S_, .f32⟩
  | 29 => ⟨S_, .f32⟩
  | 30 => ⟨S_, .i1⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1x4, .f32⟩
  | 45 => ⟨S4, .f32⟩
  | 46 => ⟨S1, .f32⟩
  | 47 => ⟨S_, .f32⟩
  | 48 => ⟨S20000x1, .f32⟩
  | 49 => ⟨S20000, .f32⟩
  | 50 => ⟨S20000, .f32⟩
  | 51 => ⟨S20000, .f32⟩
  | 52 => ⟨S1, .f32⟩
  | 53 => ⟨S_, .f32⟩
  | 54 => ⟨S20000x1, .f32⟩
  | 55 => ⟨S20000, .f32⟩
  | 56 => ⟨S20000, .f32⟩
  | 57 => ⟨S20000, .f32⟩
  | 58 => ⟨S1, .f32⟩
  | 59 => ⟨S_, .f32⟩
  | 60 => ⟨S20000x1, .f32⟩
  | 61 => ⟨S20000, .f32⟩
  | 62 => ⟨S20000, .f32⟩
  | 63 => ⟨S20000, .f32⟩
  | 64 => ⟨S1, .f32⟩
  | 65 => ⟨S_, .f32⟩
  | 66 => ⟨S20000x1, .f32⟩
  | 67 => ⟨S20000, .f32⟩
  | 68 => ⟨S20000, .f32⟩
  | 69 => ⟨S20000, .f32⟩
  | 70 => ⟨S20000, .f32⟩
  | 71 => ⟨S_, .f32⟩
  | 72 => ⟨S_, .f32⟩
  | 73 => ⟨S20000, .f32⟩
  | 74 => ⟨S20000, .f32⟩
  | 75 => ⟨S20000, .f32⟩
  | 76 => ⟨S_, .f32⟩
  | 77 => ⟨S_, .f32⟩
  | 78 => ⟨S20000, .f32⟩
  | 79 => ⟨S20000, .f32⟩
  | 80 => ⟨S20000, .f32⟩
  | 81 => ⟨S1, .f32⟩
  | 82 => ⟨S_, .f32⟩
  | 83 => ⟨S1, .f32⟩
  | 84 => ⟨S_, .f32⟩
  | 85 => ⟨S_, .f32⟩
  | 86 => ⟨S1, .f32⟩
  | 87 => ⟨S_, .f32⟩
  | 88 => ⟨S1, .f32⟩
  | 89 => ⟨S_, .f32⟩
  | 90 => ⟨S_, .f32⟩
  | 91 => ⟨S_, .f32⟩
  | 92 => ⟨S20000x1, .f32⟩
  | 93 => ⟨S20000, .f32⟩
  | 94 => ⟨S20000x1, .f32⟩
  | 95 => ⟨S20000, .f32⟩
  | 96 => ⟨S20000, .f32⟩
  | 97 => ⟨S20000x1, .f32⟩
  | 98 => ⟨S20000, .f32⟩
  | 99 => ⟨S20000x1, .f32⟩
  | 100 => ⟨S20000, .f32⟩
  | 101 => ⟨S20000, .f32⟩
  | 102 => ⟨S20000, .f32⟩
  | 103 => ⟨S20000, .f32⟩
  | 104 => ⟨S20000, .f32⟩
  | 105 => ⟨S20000, .f32⟩
  | 106 => ⟨S_, .f32⟩
  | 107 => ⟨S20000, .f32⟩
  | 108 => ⟨S20000, .f32⟩
  | 109 => ⟨S20000, .f32⟩
  | 110 => ⟨S_, .f32⟩
  | 111 => ⟨S20000, .f32⟩
  | 112 => ⟨S20000, .i1⟩
  | 113 => ⟨S20000, .f32⟩
  | 114 => ⟨S20000, .f32⟩
  | 115 => ⟨S_, .i32⟩
  | 116 => ⟨S_, .i1⟩
  | 117 => ⟨S_, .i32⟩
  | 118 => ⟨S_, .i32⟩
  | 119 => ⟨S_, .i32⟩
  | 120 => ⟨S1, .i32⟩
  | 121 => ⟨S20000, .f32⟩
  | 122 => ⟨S1, .i32⟩
  | 123 => ⟨S300, .i32⟩
  | 124 => ⟨S1, .i1⟩
  | 125 => ⟨S300, .i1⟩
  | 126 => ⟨S_, .i32⟩
  | 127 => ⟨S_, .i32⟩
  | _ => ⟨S20000x4, .f32⟩

abbrev hbmTy0_1 (i : Nat) : BufTy := match i % 128 with
  | 0 => ⟨S300, .f32⟩
  | 1 => ⟨S_, .i32⟩
  | 2 => ⟨S300, .i32⟩
  | 3 => ⟨S300, .i1⟩
  | 4 => ⟨S_, .i32⟩
  | 5 => ⟨S300, .i32⟩
  | 6 => ⟨S300, .i32⟩
  | 7 => ⟨S300, .i32⟩
  | 8 => ⟨S300x1, .i32⟩
  | 9 => ⟨S300x4, .f32⟩
  | 10 => ⟨S300x1, .f32⟩
  | 11 => ⟨S300x4, .f32⟩
  | 12 => ⟨S300x4, .f32⟩
  | 13 => ⟨S_, .i32⟩
  | 14 => ⟨S300, .i32⟩
  | 15 => ⟨S300, .i1⟩
  | 16 => ⟨S_, .i32⟩
  | 17 => ⟨S300, .i32⟩
  | 18 => ⟨S300, .i32⟩
  | 19 => ⟨S300, .i32⟩
  | 20 => ⟨S300x1, .i32⟩
  | 21 => ⟨S300, .f32⟩
  | 22 => ⟨S300, .f32⟩
  | 23 => ⟨S300x1, .f32⟩
  | 24 => ⟨S300x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_while0c_c_11 : Ref sig .tc := ⟨.hbm, 14, rfl⟩
abbrev main_while0c_v24 : Ref sig .tc := ⟨.hbm, 15, rfl⟩
abbrev main_while0b_call0_v0 : Ref sig .tc := ⟨.hbm, 16, rfl⟩
abbrev main_while0b_call0_cst : Ref sig .tc := ⟨.hbm, 17, rfl⟩
abbrev main_while0b_call0_c : Ref sig .tc := ⟨.hbm, 18, rfl⟩
abbrev main_while0b_call0_v1_0 : Ref sig .tc := ⟨.hbm, 19, rfl⟩
abbrev main_while0b_v24 : Ref sig .tc := ⟨.hbm, 20, rfl⟩
abbrev main_while0b_c_11 : Ref sig .tc := ⟨.hbm, 21, rfl⟩
abbrev main_while0b_v25 : Ref sig .tc := ⟨.hbm, 22, rfl⟩
abbrev main_while0b_c_12 : Ref sig .tc := ⟨.hbm, 23, rfl⟩
abbrev main_while0b_v26 : Ref sig .tc := ⟨.hbm, 24, rfl⟩
abbrev main_while0b_v27 : Ref sig .tc := ⟨.hbm, 25, rfl⟩
abbrev main_while0b_v28 : Ref sig .tc := ⟨.hbm, 26, rfl⟩
abbrev main_while0b_v29 : Ref sig .tc := ⟨.hbm, 27, rfl⟩
abbrev main_while0b_cst_13 : Ref sig .tc := ⟨.hbm, 28, rfl⟩
abbrev main_while0b_v30 : Ref sig .tc := ⟨.hbm, 29, rfl⟩
abbrev main_while0b_v31 : Ref sig .tc := ⟨.hbm, 30, rfl⟩
abbrev main_while0b_c_14 : Ref sig .tc := ⟨.hbm, 31, rfl⟩
abbrev main_while0b_v32 : Ref sig .tc := ⟨.hbm, 32, rfl⟩
abbrev main_while0b_c_15 : Ref sig .tc := ⟨.hbm, 33, rfl⟩
abbrev main_while0b_v33 : Ref sig .tc := ⟨.hbm, 34, rfl⟩
abbrev main_while0b_v34 : Ref sig .tc := ⟨.hbm, 35, rfl⟩
abbrev main_while0b_c_16 : Ref sig .tc := ⟨.hbm, 36, rfl⟩
abbrev main_while0b_c_17 : Ref sig .tc := ⟨.hbm, 37, rfl⟩
abbrev main_while0b_v35 : Ref sig .tc := ⟨.hbm, 38, rfl⟩
abbrev main_while0b_c_18 : Ref sig .tc := ⟨.hbm, 39, rfl⟩
abbrev main_while0b_c_19 : Ref sig .tc := ⟨.hbm, 40, rfl⟩
abbrev main_while0b_v36 : Ref sig .tc := ⟨.hbm, 41, rfl⟩
abbrev main_while0b_c_20 : Ref sig .tc := ⟨.hbm, 42, rfl⟩
abbrev main_while0b_v37 : Ref sig .tc := ⟨.hbm, 43, rfl⟩
abbrev main_while0b_v38 : Ref sig .tc := ⟨.hbm, 44, rfl⟩
abbrev main_while0b_v39 : Ref sig .tc := ⟨.hbm, 45, rfl⟩
abbrev main_while0b_v40 : Ref sig .tc := ⟨.hbm, 46, rfl⟩
abbrev main_while0b_v41 : Ref sig .tc := ⟨.hbm, 47, rfl⟩
abbrev main_while0b_v42 : Ref sig .tc := ⟨.hbm, 48, rfl⟩
abbrev main_while0b_v43 : Ref sig .tc := ⟨.hbm, 49, rfl⟩
abbrev main_while0b_v44 : Ref sig .tc := ⟨.hbm, 50, rfl⟩
abbrev main_while0b_v45 : Ref sig .tc := ⟨.hbm, 51, rfl⟩
abbrev main_while0b_v46 : Ref sig .tc := ⟨.hbm, 52, rfl⟩
abbrev main_while0b_v47 : Ref sig .tc := ⟨.hbm, 53, rfl⟩
abbrev main_while0b_v48 : Ref sig .tc := ⟨.hbm, 54, rfl⟩
abbrev main_while0b_v49 : Ref sig .tc := ⟨.hbm, 55, rfl⟩
abbrev main_while0b_v50 : Ref sig .tc := ⟨.hbm, 56, rfl⟩
abbrev main_while0b_v51 : Ref sig .tc := ⟨.hbm, 57, rfl⟩
abbrev main_while0b_v52 : Ref sig .tc := ⟨.hbm, 58, rfl⟩
abbrev main_while0b_v53 : Ref sig .tc := ⟨.hbm, 59, rfl⟩
abbrev main_while0b_v54 : Ref sig .tc := ⟨.hbm, 60, rfl⟩
abbrev main_while0b_v55 : Ref sig .tc := ⟨.hbm, 61, rfl⟩
abbrev main_while0b_v56 : Ref sig .tc := ⟨.hbm, 62, rfl⟩
abbrev main_while0b_v57 : Ref sig .tc := ⟨.hbm, 63, rfl⟩
abbrev main_while0b_v58 : Ref sig .tc := ⟨.hbm, 64, rfl⟩
abbrev main_while0b_v59 : Ref sig .tc := ⟨.hbm, 65, rfl⟩
abbrev main_while0b_v60 : Ref sig .tc := ⟨.hbm, 66, rfl⟩
abbrev main_while0b_v61 : Ref sig .tc := ⟨.hbm, 67, rfl⟩
abbrev main_while0b_v62 : Ref sig .tc := ⟨.hbm, 68, rfl⟩
abbrev main_while0b_v63 : Ref sig .tc := ⟨.hbm, 69, rfl⟩
abbrev main_while0b_v64 : Ref sig .tc := ⟨.hbm, 70, rfl⟩
abbrev main_while0b_cst_21 : Ref sig .tc := ⟨.hbm, 71, rfl⟩
abbrev main_while0b_call1_v0 : Ref sig .tc := ⟨.hbm, 72, rfl⟩
abbrev main_while0b_call1_v1 : Ref sig .tc := ⟨.hbm, 73, rfl⟩
abbrev main_while0b_v65 : Ref sig .tc := ⟨.hbm, 74, rfl⟩
abbrev main_while0b_v66 : Ref sig .tc := ⟨.hbm, 75, rfl⟩
abbrev main_while0b_cst_22 : Ref sig .tc := ⟨.hbm, 76, rfl⟩
abbrev main_while0b_call2_v0 : Ref sig .tc := ⟨.hbm, 77, rfl⟩
abbrev main_while0b_call2_v1 : Ref sig .tc := ⟨.hbm, 78, rfl⟩
abbrev main_while0b_v67 : Ref sig .tc := ⟨.hbm, 79, rfl⟩
abbrev main_while0b_v68 : Ref sig .tc := ⟨.hbm, 80, rfl⟩
abbrev main_while0b_v69 : Ref sig .tc := ⟨.hbm, 81, rfl⟩
abbrev main_while0b_v70 : Ref sig .tc := ⟨.hbm, 82, rfl⟩
abbrev main_while0b_v71 : Ref sig .tc := ⟨.hbm, 83, rfl⟩
abbrev main_while0b_v72 : Ref sig .tc := ⟨.hbm, 84, rfl⟩
abbrev main_while0b_v73 : Ref sig .tc := ⟨.hbm, 85, rfl⟩
abbrev main_while0b_v74 : Ref sig .tc := ⟨.hbm, 86, rfl⟩
abbrev main_while0b_v75 : Ref sig .tc := ⟨.hbm, 87, rfl⟩
abbrev main_while0b_v76 : Ref sig .tc := ⟨.hbm, 88, rfl⟩
abbrev main_while0b_v77 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_v81 : Ref sig .tc := ⟨.hbm, 93, rfl⟩
abbrev main_while0b_v82 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_v88 : Ref sig .tc := ⟨.hbm, 100, rfl⟩
abbrev main_while0b_v89 : Ref sig .tc := ⟨.hbm, 101, rfl⟩
abbrev main_while0b_v90 : Ref sig .tc := ⟨.hbm, 102, rfl⟩
abbrev main_while0b_v91 : Ref sig .tc := ⟨.hbm, 103, rfl⟩
abbrev main_while0b_v92 : Ref sig .tc := ⟨.hbm, 104, rfl⟩
abbrev main_while0b_v93 : Ref sig .tc := ⟨.hbm, 105, rfl⟩
abbrev main_while0b_cst_23 : Ref sig .tc := ⟨.hbm, 106, rfl⟩
abbrev main_while0b_v94 : Ref sig .tc := ⟨.hbm, 107, rfl⟩
abbrev main_while0b_v95 : Ref sig .tc := ⟨.hbm, 108, rfl⟩
abbrev main_while0b_v96 : Ref sig .tc := ⟨.hbm, 109, rfl⟩
abbrev main_while0b_cst_24 : Ref sig .tc := ⟨.hbm, 110, rfl⟩
abbrev main_while0b_v97 : Ref sig .tc := ⟨.hbm, 111, rfl⟩
abbrev main_while0b_v98 : Ref sig .tc := ⟨.hbm, 112, rfl⟩
abbrev main_while0b_call3_v0 : Ref sig .tc := ⟨.hbm, 113, rfl⟩
abbrev main_while0b_v99 : Ref sig .tc := ⟨.hbm, 114, rfl⟩
abbrev main_while0b_c_25 : Ref sig .tc := ⟨.hbm, 115, rfl⟩
abbrev main_while0b_v100 : Ref sig .tc := ⟨.hbm, 116, rfl⟩
abbrev main_while0b_c_26 : Ref sig .tc := ⟨.hbm, 117, rfl⟩
abbrev main_while0b_v101 : Ref sig .tc := ⟨.hbm, 118, rfl⟩
abbrev main_while0b_v102 : Ref sig .tc := ⟨.hbm, 119, rfl⟩
abbrev main_while0b_v103 : Ref sig .tc := ⟨.hbm, 120, rfl⟩
abbrev main_while0b_v104 : Ref sig .tc := ⟨.hbm, 121, rfl⟩
abbrev main_while0b_call4_v0 : Ref sig .tc := ⟨.hbm, 122, rfl⟩
abbrev main_while0b_v105 : Ref sig .tc := ⟨.hbm, 123, rfl⟩
abbrev main_while0b_call5_v0 : Ref sig .tc := ⟨.hbm, 124, rfl⟩
abbrev main_while0b_v106 : Ref sig .tc := ⟨.hbm, 125, rfl⟩
abbrev main_while0b_c_27 : Ref sig .tc := ⟨.hbm, 126, rfl⟩
abbrev main_while0b_v107 : Ref sig .tc := ⟨.hbm, 127, rfl⟩
abbrev main_v3 : Ref sig .tc := ⟨.hbm, 128, rfl⟩
abbrev main_c_2 : Ref sig .tc := ⟨.hbm, 129, rfl⟩
abbrev main_v4 : Ref sig .tc := ⟨.hbm, 130, rfl⟩
abbrev main_v5 : Ref sig .tc := ⟨.hbm, 131, rfl⟩
abbrev main_c_3 : Ref sig .tc := ⟨.hbm, 132, rfl⟩
abbrev main_v6 : Ref sig .tc := ⟨.hbm, 133, rfl⟩
abbrev main_v7 : Ref sig .tc := ⟨.hbm, 134, rfl⟩
abbrev main_v8 : Ref sig .tc := ⟨.hbm, 135, rfl⟩
abbrev main_v9 : Ref sig .tc := ⟨.hbm, 136, rfl⟩
abbrev main_v10 : Ref sig .tc := ⟨.hbm, 137, rfl⟩
abbrev main_v11 : Ref sig .tc := ⟨.hbm, 138, rfl⟩
abbrev main_v12 : Ref sig .tc := ⟨.hbm, 139, rfl⟩
abbrev main_v13 : Ref sig .tc := ⟨.hbm, 140, rfl⟩
abbrev main_c_4 : Ref sig .tc := ⟨.hbm, 141, rfl⟩
abbrev main_v14 : Ref sig .tc := ⟨.hbm, 142, rfl⟩
abbrev main_v15 : Ref sig .tc := ⟨.hbm, 143, rfl⟩
abbrev main_c_5 : Ref sig .tc := ⟨.hbm, 144, rfl⟩
abbrev main_v16 : Ref sig .tc := ⟨.hbm, 145, rfl⟩
abbrev main_v17 : Ref sig .tc := ⟨.hbm, 146, rfl⟩
abbrev main_v18 : Ref sig .tc := ⟨.hbm, 147, rfl⟩
abbrev main_v19 : Ref sig .tc := ⟨.hbm, 148, rfl⟩
abbrev main_v20 : Ref sig .tc := ⟨.hbm, 149, rfl⟩
abbrev main_v21 : Ref sig .tc := ⟨.hbm, 150, rfl⟩
abbrev main_v22 : Ref sig .tc := ⟨.hbm, 151, rfl⟩
abbrev main_v23 : Ref sig .tc := ⟨.hbm, 152, rfl⟩

abbrev nD : Nat := 1
abbrev τ : Topo := Topo.v7x

variable {F : FTy → Type} [FloatOps F]

abbrev main_while0_count : Scf.Loop 32 := ⟨0#32, 300#32, 1#32⟩
-- ==== Proof.Steps.lean ====
module

public import proofs.«01_k».proof.Proof.Gen.KernelIdeal.Loops
public import proofs.«01_k».proof.Proof.Gen.KernelIdeal.Frame

@[expose] public section

noncomputable section

/-! What one trip of the kernel's loop computes, as functions of the planes it reads: no memory, no program. -/

namespace Cert.Proof.Nms

open Cert.KernelIdeal Cert.KernelIdeal.Gen
open Idealize.ShloMosaic

variable {F : FTy → Type} [FloatOps F]

/-- A plane of 160 rows and 128 lanes. -/
abbrev Plane (F : FTy → Type) : Type := FVec F S160x128 .f32
/-- The eight values a trip carries: the maximum, its box, the two bounds on what is left, and whether to pick exactly. -/
abbrev Carry (F : FTy → Type) : Type := F .f32 × F .f32 × F .f32 × F .f32 × F .f32 × F .f32 × F .f32 × BitVec 1

/-- The fill value -1e30. -/
def fill : F .f32 := Scalar.ofBits .f32 0xF149F2CA#32
/-- Half the fill value: a score above it is a live one. -/
def halfFill : F .f32 := Scalar.ofBits .f32 0xF0C9F2CA#32

/-- A plane read through the identity reshape that every load of a coordinate plane goes through. -/
def same (x : Plane F) : Plane F := shapeCast S160x128 x shapeCasts_S160x128_S160x128

/-- The largest element of a plane. -/
def redMax (x : Plane F) : F .f32 :=
  extractAt ![0, 0, 0] (shapeCast S1x1x1 (multiReduction .maximumf [1, 2] S1 (shapeCast S1x160x128 x shapeCasts_S160x128_S1x160x128) 0xFF800000#32 reduces_S1x160x128_S1 (.inl rfl) rfl : FVec F S1 .f32) shapeCasts_S1_S1x1x1) inpos_S1x1x1_p0_0_0
/-- The smallest element of a plane. -/
def redMin (x : Plane F) : F .f32 :=
  extractAt ![0, 0, 0] (shapeCast S1x1x1 (multiReduction .minimumf [1, 2] S1 (shapeCast S1x160x128 x shapeCasts_S160x128_S1x160x128) 0x7F800000#32 reduces_S1x160x128_S1 (.inl rfl) rfl : FVec F S1 .f32) shapeCasts_S1_S1x1x1) inpos_S1x1x1_p0_0_0
/-- The sum of a plane. -/
def redSum (x : Plane F) : F .f32 :=
  extractAt ![0, 0, 0] (shapeCast S1x1x1 (multiReduction .add [1, 2] S1 (shapeCast S1x160x128 x shapeCasts_S160x128_S1x160x128) 0x00000000#32 reduces_S1x160x128_S1 (.inl rfl) rfl : FVec F S1 .f32) shapeCasts_S1_S1x1x1) inpos_S1x1x1_p0_0_0

/-- Where a plane equals a number. -/
def isEq (x : Plane F) (v : F .f32) : IVec S160x128 1 := cmpf .oeq x (broadcast S160x128 v)
/-- The plane with the marked elements filled. -/
def fillAt (mk : IVec S160x128 1) (x : Plane F) : Plane F := select mk (broadcast S160x128 fill) x
/-- The plane with the elements equal to `v` filled. -/
def cut (x : Plane F) (v : F .f32) : Plane F := fillAt (isEq x v) x
/-- How many elements are marked. -/
def cnt (mk : IVec S160x128 1) : F .f32 :=
  redSum (select mk (broadcast S160x128 (Scalar.ofBits .f32 0x3F800000#32)) (broadcast S160x128 (Scalar.ofBits .f32 0x00000000#32)))
/-- The largest marked element of a coordinate plane. -/
def maxOn (mk : IVec S160x128 1) (x : Plane F) : F .f32 := redMax (select mk (same x) (broadcast S160x128 fill))
/-- Among the elements equal to `v`, the one whose number in plane `I` is the smallest. -/
def firstMask (I L : Plane F) (v : F .f32) : IVec S160x128 1 :=
  andi (isEq L v) (isEq I (redMin (select (isEq L v) I (broadcast S160x128 (Scalar.ofBits .f32 0x4E6E6B28#32)))))

/-- The area of a box. -/
def areaOf (p0 p1 p2 p3 : F .f32) : F .f32 := Scalar.mulf (Scalar.subf p2 p0) (Scalar.subf p3 p1)
/-- The area of the intersection of two boxes. -/
def inter (p0 p1 p2 p3 q0 q1 q2 q3 : F .f32) : F .f32 :=
  Scalar.mulf
    (Scalar.maximumf (Scalar.subf (Scalar.minimumf p2 q2) (Scalar.maximumf p0 q0)) (Scalar.ofBits .f32 0x00000000#32))
    (Scalar.maximumf (Scalar.subf (Scalar.minimumf p3 q3) (Scalar.maximumf p1 q1)) (Scalar.ofBits .f32 0x00000000#32))
/-- Whether two boxes' intersection over union is above a half. -/
def over (p0 p1 p2 p3 q0 q1 q2 q3 : F .f32) : BitVec 1 :=
  Scalar.cmpf .ogt (Scalar.addf (inter p0 p1 p2 p3 q0 q1 q2 q3) (inter p0 p1 p2 p3 q0 q1 q2 q3))
    (Scalar.addf (Scalar.subf (Scalar.addf (areaOf p0 p1 p2 p3) (areaOf q0 q1 q2 q3)) (inter p0 p1 p2 p3 q0 q1 q2 q3))
      (Scalar.ofBits .f32 0x3089705F#32))

/-- Box `p`'s intersection with the box at each place. -/
def interV (X0 X1 X2 X3 : Plane F) (p0 p1 p2 p3 : F .f32) : Plane F :=
  mulf
    (maximumf (subf (minimumf (broadcast S160x128 p2) (same X2)) (maximumf (broadcast S160x128 p0) (same X0)))
      (broadcast S160x128 (Scalar.ofBits .f32 0x00000000#32)))
    (maximumf (subf (minimumf (broadcast S160x128 p3) (same X3)) (maximumf (broadcast S160x128 p1) (same X1)))
      (broadcast S160x128 (Scalar.ofBits .f32 0x00000000#32)))
/-- Where the box at a place overlaps box `p` by more than a half. -/
def overV (X0 X1 X2 X3 A : Plane F) (p0 p1 p2 p3 : F .f32) : IVec S160x128 1 :=
  cmpf .ogt (addf (interV X0 X1 X2 X3 p0 p1 p2 p3) (interV X0 X1 X2 X3 p0 p1 p2 p3))
    (addf (subf (addf (broadcast S160x128 (areaOf p0 p1 p2 p3)) A) (interV X0 X1 X2 X3 p0 p1 p2 p3))
      (broadcast S160x128 (Scalar.ofBits .f32 0x3089705F#32)))
/-- The live scores with those of the boxes that `p` overlaps filled. -/
def suppress (X0 X1 X2 X3 A L : Plane F) (p0 p1 p2 p3 : F .f32) : Plane F := fillAt (overV X0 X1 X2 X3 A p0 p1 p2 p3) L

/-- One if a score is live, zero if it is not. -/
def vflag (m : F .f32) : F .f32 := Scalar.sitofp .f32 (Scalar.extui (Scalar.cmpf .ogt m halfFill) : BitVec 32)
/-- A row of the result: the box and its score, zeroed where the score is not live. -/
def rowOf (m p0 p1 p2 p3 : F .f32) : F .f32 × F .f32 × F .f32 × F .f32 × F .f32 :=
  (Scalar.mulf p0 (vflag m), Scalar.mulf p1 (vflag m), Scalar.mulf p2 (vflag m), Scalar.mulf p3 (vflag m), Scalar.mulf m (vflag m))

/-- Whether a number of elements is not one. -/
def notOne (n : F .f32) : BitVec 1 :=
  Scalar.ori (Scalar.cmpf .olt n (Scalar.ofBits .f32 0x3F000000#32)) (Scalar.cmpf .ogt n (Scalar.ofBits .f32 0x3FC00000#32))

/-- The largest coordinate, in plane `X`, of the elements equal to `v`. -/
def maxEq (L : Plane F) (v : F .f32) (X : Plane F) : F .f32 := maxOn (isEq L v) X
/-- The coordinate, in plane `X`, of the exact pick on the live scores `L`. -/
def pick (I L X : Plane F) : F .f32 := maxOn (firstMask I L (redMax L)) X

/-- Whether the two speculated picks `a`, `b` cannot be taken. -/
def rareBit (X0 X1 X2 X3 L : Plane F) (p0 p1 p2 p3 a b : F .f32) (fo : BitVec 1) : BitVec 1 :=
  Scalar.ori
    (Scalar.ori fo
      (Scalar.ori (Scalar.ori (notOne (cnt (F := F) (isEq L a))) (Scalar.cmpf .ole a halfFill))
        (over p0 p1 p2 p3 (maxEq L a X0) (maxEq L a X1) (maxEq L a X2) (maxEq L a X3))))
    (Scalar.ori
      (Scalar.ori (Scalar.ori (notOne (cnt (F := F) (isEq L b))) (Scalar.cmpf .ole b halfFill))
        (over p0 p1 p2 p3 (maxEq L b X0) (maxEq L b X1) (maxEq L b X2) (maxEq L b X3)))
      (over (maxEq L a X0) (maxEq L a X1) (maxEq L a X2) (maxEq L a X3) (maxEq L b X0) (maxEq L b X1) (maxEq L b X2) (maxEq L b X3)))

/-- The live scores and what is carried. -/
structure St (F : FTy → Type) where
  live : Plane F
  carry : Carry F

/-- The maximum carried. -/
abbrev St.m (s : St F) : F .f32 := s.carry.1
/-- The carried box's corners. -/
abbrev St.p0 (s : St F) : F .f32 := s.carry.2.1
abbrev St.p1 (s : St F) : F .f32 := s.carry.2.2.1
abbrev St.p2 (s : St F) : F .f32 := s.carry.2.2.2.1
abbrev St.p3 (s : St F) : F .f32 := s.carry.2.2.2.2.1
/-- The two speculated values. -/
abbrev St.a (s : St F) : F .f32 := s.carry.2.2.2.2.2.1
abbrev St.b (s : St F) : F .f32 := s.carry.2.2.2.2.2.2.1
/-- Whether to pick exactly whatever the speculated values. -/
abbrev St.force (s : St F) : BitVec 1 := s.carry.2.2.2.2.2.2.2

/-- The exact pick on the live scores `L`: the maximum, the box of the first place that holds it, the two next values, and
    whether the maximum is held twice. -/
def exactCarry (X0 X1 X2 X3 I L : Plane F) : Carry F :=
  (redMax L, pick I L X0, pick I L X1, pick I L X2, pick I L X3, redMax (cut L (redMax L)),
    redMax (cut (cut L (redMax L)) (redMax (cut L (redMax L)))),
    Scalar.cmpf .ogt (cnt (F := F) (isEq L (redMax L))) (Scalar.ofBits .f32 0x3FC00000#32))

/-- The live scores less the places equal to one of three numbers. -/
def excl (L : Plane F) (m a b : F .f32) : Plane F := fillAt (isEq L m) (fillAt (isEq L a) (fillAt (isEq L b) L))

/-- What is carried on when the two speculated picks `a`, `b` are taken. -/
def specCarry (X0 X1 X2 X3 L : Plane F) (m a b : F .f32) : Carry F :=
  (b, maxEq L b X0, maxEq L b X1, maxEq L b X2, maxEq L b X3, redMax (excl L m a b),
    redMax (cut (excl L m a b) (redMax (excl L m a b))), 0#1)

/-- The test of a state, as the program spells it. -/
def St.rare (X0 X1 X2 X3 : Plane F) (s : St F) : Prop :=
  Scalar.cmpi .ne (Scalar.extui (rareBit X0 X1 X2 X3 s.live s.p0 s.p1 s.p2 s.p3 s.a s.b s.force) : BitVec 32) 0#32 = 1#1

/-- The live scores once the carried box's overlaps are filled. -/
def St.live1 (X0 X1 X2 X3 A : Plane F) (s : St F) : Plane F := suppress X0 X1 X2 X3 A s.live s.p0 s.p1 s.p2 s.p3

/-- The live scores `L` once the exact pick's overlaps are filled. -/
def liveOf (X0 X1 X2 X3 A I L : Plane F) : Plane F :=
  suppress X0 X1 X2 X3 A L (pick I L X0) (pick I L X1) (pick I L X2) (pick I L X3)

/-- The state after a trip that picks exactly. -/
def St.nextRare (X0 X1 X2 X3 A I : Plane F) (s : St F) : St F :=
  ⟨liveOf X0 X1 X2 X3 A I (s.live1 X0 X1 X2 X3 A), exactCarry X0 X1 X2 X3 I (liveOf X0 X1 X2 X3 A I (s.live1 X0 X1 X2 X3 A))⟩

/-- The state after a trip that takes the speculated picks. -/
def St.nextSpec (X0 X1 X2 X3 A : Plane F) (s : St F) : St F :=
  ⟨suppress X0 X1 X2 X3 A (s.live1 X0 X1 X2 X3 A) (maxEq s.live s.a X0) (maxEq s.live s.a X1) (maxEq s.live s.a X2) (maxEq s.live s.a X3),
    specCarry X0 X1 X2 X3 s.live s.m s.a s.b⟩

open Classical in
/-- The state after a trip. -/
def St.next (X0 X1 X2 X3 A I : Plane F) (s : St F) : St F :=
  if s.rare X0 X1 X2 X3 then s.nextRare X0 X1 X2 X3 A I else s.nextSpec X0 X1 X2 X3 A

/-- The first row a trip writes. -/
def St.row0 (s : St F) : F .f32 × F .f32 × F .f32 × F .f32 × F .f32 := rowOf s.m s.p0 s.p1 s.p2 s.p3

/-- The row of the exact pick on the live scores `L`. -/
def pickRow (X0 X1 X2 X3 I L : Plane F) : F .f32 × F .f32 × F .f32 × F .f32 × F .f32 :=
  rowOf (redMax L) (pick I L X0) (pick I L X1) (pick I L X2) (pick I L X3)

open Classical in
/-- The second row a trip writes. -/
def St.row1 (X0 X1 X2 X3 A I : Plane F) (s : St F) : F .f32 × F .f32 × F .f32 × F .f32 × F .f32 :=
  if s.rare X0 X1 X2 X3 then pickRow X0 X1 X2 X3 I (s.live1 X0 X1 X2 X3 A)
  else rowOf s.a (maxEq s.live s.a X0) (maxEq s.live s.a X1) (maxEq s.live s.a X2) (maxEq s.live s.a X3)

/-- The number of each place. -/
def numbers : Plane F := k0_pay87

/-- The areas of the boxes. -/
def areas (X0 X1 X2 X3 : Plane F) : Plane F := same (mulf (subf (same X2) (same X0)) (subf (same X3) (same X1)))

/-- The state before the first trip. -/
def init (X0 X1 X2 X3 S : Plane F) : St F := ⟨same (same S), exactCarry X0 X1 X2 X3 numbers (same S)⟩

/-- The state before trip `k`. -/
def iter (X0 X1 X2 X3 S : Plane F) : ℕ → St F
  | 0 => init X0 X1 X2 X3 S
  | k + 1 => (iter X0 X1 X2 X3 S k).next X0 X1 X2 X3 (areas X0 X1 X2 X3) numbers

end Cert.Proof.Nms
end
-- ==== Proof.Trip.lean ====
module

public import proofs.«01_k».proof.Proof.Steps
public import Idealize.ShloMosaic.Lib.Tactic
public import Idealize.ShloMosaic.Lib.Writes
public import Idealize.ShloMosaic.Lib.VecWindow
public import Idealize.ShloMosaic.Lib.Pipeline.Value

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU : Type := UR sig nD τ
abbrev 𝒱₀ : Variants := Variants.none

local notation "𝕄" => MT nD τ sig Unit (Elt F) ℕ UU ℕ

/-- What memref `M`'s buffer on core `c` may hold. -/
abbrev Bf (c : Dev nD) {S : Shape} {e : EltTy} (M : Memref sig .tc .vmem S e) : Type := Buf (Elt F) (M.view.loc (c : Thread nD τ))
/-- Memref `M`'s buffer on core `c`, held whole at `f`. -/
abbrev pt (c : Dev nD) {S : Shape} {e : EltTy} (M : Memref sig .tc .vmem S e) (f : Bf (F := F) c M) : sProp 𝕄 :=
  M.view.loc (c : Thread nD τ) ↦{fullShare} f

/-- What a plane's memref reads from its buffer's contents `f`. -/
abbrev rd {c : Dev nD} (M : Memref sig .tc .vmem S160x128 .f32) (f : Bf (F := F) c M) : Plane F :=
  View.readAt (Elt F) M.view (Rect.unit (s := S160x128) ![0, 0] S160x128.size inb_S160x128_S160x128_0_0).toLoadRect f

/-- What a result column's memref reads from its buffer's contents `f`, row by row. -/
abbrev rdC {c : Dev nD} (M : Memref sig .tc .vmem S300x1 .f32) (f : Bf (F := F) c M) : S300x1.Idx → F .f32 :=
  M.view.read (Elt F) f

/-- Column `C'` is column `C` with rows `2k` and `2k + 1` at `x` and `y`. -/
def Puts (k : ℕ) (C C' : S300x1.Idx → F .f32) (x y : F .f32) : Prop :=
  ∀ r : S300x1.Idx, C' r = if (r 0).val = 2 * k + 1 then y else if (r 0).val = 2 * k then x else C r

/-- Two stores of one element each, at rows `2k` and `2k + 1` of a column, put those two rows. -/
theorem puts_of_writes {c : Dev nD} (M : Memref sig .tc .vmem S300x1 .f32) (f : Bf (F := F) c M) (k : ℕ)
    (o o' : Fin 2 → ℕ) (ho : o = ![2 * k, 0]) (ho' : o' = ![2 * k + 1, 0]) (h : ∀ a, o a + S1x1.size a ≤ S300x1.size a) (h' : ∀ a, o' a + S1x1.size a ≤ S300x1.size a)
    (x y y' : F .f32) (hy : y = y') :
    Puts k (rdC M f) (rdC (c := c) M (M.view.writes (Elt F) f [⟨Rect.unit o' S1x1.size h', broadcast S1x1 y⟩, ⟨Rect.unit o S1x1.size h, broadcast S1x1 x⟩])) x y' := by
  subst ho ho' hy
  intro r
  have h1 : (r 1).val = 0 := by have := (r 1).isLt; change (r 1).val < 1 at this; omega
  by_cases e : (r 0).val = 2 * k + 1
  · rw [if_pos e]
    exact View.read_writes_cons_hit_of_coords M.view f _ _ _ (fun a => ⟨0, by fin_cases a <;> exact Nat.one_pos⟩) r (by
      intro a; fin_cases a
      · show (r 0).val = 2 * k + 1 + 1 * 0; omega
      · show (r 1).val = 0 + 1 * 0; omega)
  · rw [if_neg e]
    refine (View.read_writes_cons_miss_of_axis M.view f _ _ r 0 (2 * k + 1) 1 rfl rfl rfl (by omega)).trans ?_
    by_cases e' : (r 0).val = 2 * k
    · rw [if_pos e']
      exact View.read_writes_cons_hit_of_coords M.view f _ _ _ (fun a => ⟨0, by fin_cases a <;> exact Nat.one_pos⟩) r (by
        intro a; fin_cases a
        · show (r 0).val = 2 * k + 1 * 0; omega
        · show (r 1).val = 0 + 1 * 0; omega)
    · rw [if_neg e']
      exact View.read_writes_cons_miss_of_axis M.view f _ _ r 0 (2 * k) 1 rfl rfl rfl (by omega)

/-- The identity reshape changes nothing. -/
theorem same_eq (x : Plane F) : same x = x := shapeCast_self x _

section
variable (c : Dev nD) (arg0 : Memref sig .tc .vmem S160x128 .f32) (harg0 : arg0.IsWhole) (arg1 : Memref sig .tc .vmem S160x128 .f32) (harg1 : arg1.IsWhole) (arg2 : Memref sig .tc .vmem S160x128 .f32) (harg2 : arg2.IsWhole) (arg3 : Memref sig .tc .vmem S160x128 .f32) (harg3 : arg3.IsWhole) (arg4 : Memref sig .tc .vmem S160x128 .f32) (harg4 : arg4.IsWhole) (arg5 : Memref sig .tc .vmem S300x1 .f32) (harg5 : arg5.IsWhole) (arg6 : Memref sig .tc .vmem S300x1 .f32) (harg6 : arg6.IsWhole) (arg7 : Memref sig .tc .vmem S300x1 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S160x128 .f32) (harg10 : arg10.IsWhole) (arg11 : Memref sig .tc .vmem S160x128 .f32) (harg11 : arg11.IsWhole) (arg12 : Memref sig .tc .vmem S160x128 .f32) (harg12 : arg12.IsWhole)

/-- The buffers a trip touches: the four coordinate planes, the five result columns, the live scores and the areas. -/
abbrev Held (f0 : Bf (F := F) c arg0) (f1 : Bf (F := F) c arg1) (f2 : Bf (F := F) c arg2) (f3 : Bf (F := F) c arg3) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) : sProp 𝕄 :=
  iprop(pt c arg0 f0 ∗ pt c arg1 f1 ∗ pt c arg2 f2 ∗ pt c arg3 f3 ∗ pt c arg5 f5 ∗ pt c arg6 f6 ∗ pt c arg7 f7 ∗ pt c arg8 f8 ∗ pt c arg9 f9 ∗ pt c arg10 f10 ∗ pt c arg11 f11)

/-- What a trip from state `s` leaves: the planes as they were, the five columns with two more rows, the live scores and
    the carried values of the next state. -/
def Post (f0 : Bf (F := F) c arg0) (f1 : Bf (F := F) c arg1) (f2 : Bf (F := F) c arg2) (f3 : Bf (F := F) c arg3) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11)
    (I : Plane F) (k : ℕ) (s : St F) (acc' : Carry F) : sProp 𝕄 :=
  let X0 := rd arg0 f0; let X1 := rd arg1 f1; let X2 := rd arg2 f2; let X3 := rd arg3 f3; let A := rd arg11 f11
  iprop(∃ (f5' : Bf (F := F) c arg5) (f6' : Bf (F := F) c arg6) (f7' : Bf (F := F) c arg7) (f8' : Bf (F := F) c arg8) (f9' : Bf (F := F) c arg9) (f10' : Bf (F := F) c arg10),
    Held c arg0 arg1 arg2 arg3 arg5 arg6 arg7 arg8 arg9 arg10 arg11 f0 f1 f2 f3 f5' f6' f7' f8' f9' f10' f11
    ∗ ⌜rd arg10 f10' = (s.next X0 X1 X2 X3 A I).live ∧ acc' = (s.next X0 X1 X2 X3 A I).carry
      ∧ Puts k (rdC arg5 f5) (rdC arg5 f5') s.row0.1 (s.row1 X0 X1 X2 X3 A I).1
      ∧ Puts k (rdC arg6 f6) (rdC arg6 f6') s.row0.2.1 (s.row1 X0 X1 X2 X3 A I).2.1
      ∧ Puts k (rdC arg7 f7) (rdC arg7 f7') s.row0.2.2.1 (s.row1 X0 X1 X2 X3 A I).2.2.1
      ∧ Puts k (rdC arg8 f8) (rdC arg8 f8') s.row0.2.2.2.1 (s.row1 X0 X1 X2 X3 A I).2.2.2.1
      ∧ Puts k (rdC arg9 f9) (rdC arg9 f9') s.row0.2.2.2.2 (s.row1 X0 X1 X2 X3 A I).2.2.2.2⌝)

set_option maxRecDepth 20000 in
/-- One trip. -/
theorem trip (f0 : Bf (F := F) c arg0) (f1 : Bf (F := F) c arg1) (f2 : Bf (F := F) c arg2) (f3 : Bf (F := F) c arg3) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11)
    (I : Vec F S160x128 .f32) (k : Fin k0_t1_loop.trips) (acc : Carry F) :
    Held c arg0 arg1 arg2 arg3 arg5 arg6 arg7 arg8 arg9 arg10 arg11 f0 f1 f2 f3 f5 f6 f7 f8 f9 f10 f11
      ⊢ wp frame (wpE (defs₀ (F := F)) 𝒱₀ c none) Set.univ (k0_t1_body arg0 harg0 arg1 harg1 arg2 harg2 arg3 harg3 arg4 harg4 arg5 harg5 arg6 harg6 arg7 harg7 arg8 harg8 arg9 harg9 arg10 harg10 arg11 harg11 arg12 harg12 I k acc)
          (Post c arg0 arg1 arg2 arg3 arg5 arg6 arg7 arg8 arg9 arg10 arg11 f0 f1 f2 f3 f5 f6 f7 f8 f9 f10 f11 I k.val ⟨rd arg10 f10, acc⟩) := by
  obtain ⟨m, p0, p1, p2, p3, a, b, fo⟩ := acc
  have hL : arg10.view.readCov (Val := Elt F) [⟨Rect.unit (s := S160x128) ![0, 0] S160x128.size inb_S160x128_S160x128_0_0,
        same (suppress (rd arg0 f0) (rd arg1 f1) (rd arg2 f2) (rd arg3 f3) (rd arg11 f11) (rd arg10 f10) p0 p1 p2 p3)⟩]
        (Rect.unit (s := S160x128) ![0, 0] S160x128.size inb_S160x128_S160x128_0_0).toLoadRect
      = (St.mk (rd arg10 f10) (m, p0, p1, p2, p3, a, b, fo)).live1 (rd arg0 f0) (rd arg1 f1) (rd arg2 f2) (rd arg3 f3) (rd arg11 f11) :=
    (View.readCov_full arg10.view _ _ _ _).trans (same_eq _)
  sl_unfold [k0_t1_body]
  iintro ⟨H0, H1, H2, H3, H5, H6, H7, H8, H9, H10, H11⟩
  sl_exec
  split
  · rename_i hc
    have hr : (St.mk (rd arg10 f10) (m, p0, p1, p2, p3, a, b, fo)).rare (rd arg0 f0) (rd arg1 f1) (rd arg2 f2) (rd arg3 f3) := hc
    sl_exec
    sl_step
    unfold Post St.next St.row1
    simp only [if_pos hr]
    iexists _, _, _, _, _, _
    isplitl [H0 H1 H2 H3 H5 H6 H7 H8 H9 H10 H11]
    · sl_close
    ipureintro
    refine ⟨?_, rfl, ?_, ?_, ?_, ?_, ?_⟩
    · exact (View.readAt_writes_full arg10.view f10 _ _ _ _).trans (same_eq _)
    · exact puts_of_writes arg5 f5 k _ _ (k0_off1_eq k) (k0_off2_eq k) _ _ _ _ _ rfl
    · exact puts_of_writes arg6 f6 k _ _ (k0_off1_eq k) (k0_off2_eq k) _ _ _ _ _ rfl
    · exact puts_of_writes arg7 f7 k _ _ (k0_off1_eq k) (k0_off2_eq k) _ _ _ _ _ rfl
    · exact puts_of_writes arg8 f8 k _ _ (k0_off1_eq k) (k0_off2_eq k) _ _ _ _ _ rfl
    · exact puts_of_writes arg9 f9 k _ _ (k0_off1_eq k) (k0_off2_eq k) _ _ _ _ _ rfl
  · rename_i hc
    have hr : ¬ (St.mk (rd arg10 f10) (m, p0, p1, p2, p3, a, b, fo)).rare (rd arg0 f0) (rd arg1 f1) (rd arg2 f2) (rd arg3 f3) := hc
    sl_exec
    sl_step
    unfold Post St.next St.row1
    simp only [if_neg hr]
    iexists _, _, _, _, _, _
    isplitl [H0 H1 H2 H3 H5 H6 H7 H8 H9 H10 H11]
    · sl_close
    ipureintro
    refine ⟨?_, rfl, ?_, ?_, ?_, ?_, ?_⟩
    · exact (View.readAt_writes_full arg10.view f10 _ _ _ _).trans (same_eq _)
    · exact puts_of_writes arg5 f5 k _ _ (k0_off1_eq k) (k0_off3_eq k) _ _ _ _ _ rfl
    · exact puts_of_writes arg6 f6 k _ _ (k0_off1_eq k) (k0_off3_eq k) _ _ _ _ _ rfl
    · exact puts_of_writes arg7 f7 k _ _ (k0_off1_eq k) (k0_off3_eq k) _ _ _ _ _ rfl
    · exact puts_of_writes arg8 f8 k _ _ (k0_off1_eq k) (k0_off3_eq k) _ _ _ _ _ rfl
    · exact puts_of_writes arg9 f9 k _ _ (k0_off1_eq k) (k0_off3_eq k) _ _ _ _ _ rfl
end
end Cert.Proof.Nms
end
-- ==== Proof.Body.lean ====
module

public import proofs.«01_k».proof.Proof.Trip

@[expose] public section

noncomputable section

/-! The kernel's body: its loop over the trips, and what the five result columns hold when it returns. -/

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Row `r` of the result: the first or the second row of trip `r / 2`. -/
def outRow (X0 X1 X2 X3 S : Plane F) (r : ℕ) : F .f32 × F .f32 × F .f32 × F .f32 × F .f32 :=
  if r % 2 = 0 then (iter X0 X1 X2 X3 S (r / 2)).row0 else (iter X0 X1 X2 X3 S (r / 2)).row1 X0 X1 X2 X3 (areas X0 X1 X2 X3) numbers

/-- The rows of a column before row `n` are the values of `o`. -/
def Upto (n : ℕ) (C : S300x1.Idx → F .f32) (o : ℕ → F .f32) : Prop := ∀ r : S300x1.Idx, (r 0).val < n → C r = o (r 0).val

/-- Two more rows. -/
theorem Upto.puts {k : ℕ} {C C' : S300x1.Idx → F .f32} {o : ℕ → F .f32} {x y : F .f32} (h : Upto (2 * k) C o) (hp : Puts k C C' x y)
    (hx : x = o (2 * k)) (hy : y = o (2 * k + 1)) : Upto (2 * (k + 1)) C' o := by
  intro r hr
  rw [hp r]
  split
  · rename_i e; rw [hy, e]
  · split
    · rename_i e; rw [hx, e]
    · exact h r (by omega)

theorem outRow_even (X0 X1 X2 X3 S : Plane F) (k : ℕ) : outRow X0 X1 X2 X3 S (2 * k) = (iter X0 X1 X2 X3 S k).row0 := by
  unfold outRow; rw [if_pos (by omega), show 2 * k / 2 = k by omega]
theorem outRow_odd (X0 X1 X2 X3 S : Plane F) (k : ℕ) :
    outRow X0 X1 X2 X3 S (2 * k + 1) = (iter X0 X1 X2 X3 S k).row1 X0 X1 X2 X3 (areas X0 X1 X2 X3) numbers := by
  unfold outRow; rw [if_neg (by omega), show (2 * k + 1) / 2 = k by omega]

section
variable (c : Dev nD) (arg0 : Memref sig .tc .vmem S160x128 .f32) (harg0 : arg0.IsWhole) (arg1 : Memref sig .tc .vmem S160x128 .f32) (harg1 : arg1.IsWhole) (arg2 : Memref sig .tc .vmem S160x128 .f32) (harg2 : arg2.IsWhole) (arg3 : Memref sig .tc .vmem S160x128 .f32) (harg3 : arg3.IsWhole) (arg4 : Memref sig .tc .vmem S160x128 .f32) (harg4 : arg4.IsWhole) (arg5 : Memref sig .tc .vmem S300x1 .f32) (harg5 : arg5.IsWhole) (arg6 : Memref sig .tc .vmem S300x1 .f32) (harg6 : arg6.IsWhole) (arg7 : Memref sig .tc .vmem S300x1 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S160x128 .f32) (harg10 : arg10.IsWhole) (arg11 : Memref sig .tc .vmem S160x128 .f32) (harg11 : arg11.IsWhole) (arg12 : Memref sig .tc .vmem S160x128 .f32) (harg12 : arg12.IsWhole)

/-- Before trip `k`: the planes as they were, the live scores and the carried values those of state `k`, and the first `2k` rows
    of the columns written. -/
def Inv (f0 : Bf (F := F) c arg0) (f1 : Bf (F := F) c arg1) (f2 : Bf (F := F) c arg2) (f3 : Bf (F := F) c arg3) (f11 : Bf (F := F) c arg11) (S : Plane F) (k : ℕ) (acc : Carry F) : sProp 𝕄 :=
  let X0 := rd arg0 f0; let X1 := rd arg1 f1; let X2 := rd arg2 f2; let X3 := rd arg3 f3
  iprop(∃ (f5 : Bf (F := F) c arg5) (f6 : Bf (F := F) c arg6) (f7 : Bf (F := F) c arg7) (f8 : Bf (F := F) c arg8) (f9 : Bf (F := F) c arg9) (f10 : Bf (F := F) c arg10),
    Held c arg0 arg1 arg2 arg3 arg5 arg6 arg7 arg8 arg9 arg10 arg11 f0 f1 f2 f3 f5 f6 f7 f8 f9 f10 f11
    ∗ ⌜rd arg10 f10 = (iter X0 X1 X2 X3 S k).live ∧ acc = (iter X0 X1 X2 X3 S k).carry
      ∧ rd arg11 f11 = areas X0 X1 X2 X3
      ∧ Upto (2 * k) (rdC arg5 f5) (fun r => (outRow X0 X1 X2 X3 S r).1)
      ∧ Upto (2 * k) (rdC arg6 f6) (fun r => (outRow X0 X1 X2 X3 S r).2.1)
      ∧ Upto (2 * k) (rdC arg7 f7) (fun r => (outRow X0 X1 X2 X3 S r).2.2.1)
      ∧ Upto (2 * k) (rdC arg8 f8) (fun r => (outRow X0 X1 X2 X3 S r).2.2.2.1)
      ∧ Upto (2 * k) (rdC arg9 f9) (fun r => (outRow X0 X1 X2 X3 S r).2.2.2.2)⌝)

/-- What the body leaves: the inputs as they were, and the five columns holding the rows of the result. -/
def Done (f0 : Bf (F := F) c arg0) (f1 : Bf (F := F) c arg1) (f2 : Bf (F := F) c arg2) (f3 : Bf (F := F) c arg3) (f4 : Bf (F := F) c arg4) : sProp 𝕄 :=
  let X0 := rd arg0 f0; let X1 := rd arg1 f1; let X2 := rd arg2 f2; let X3 := rd arg3 f3; let S := rd arg4 f4
  iprop(∃ (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12),
    (Held c arg0 arg1 arg2 arg3 arg5 arg6 arg7 arg8 arg9 arg10 arg11 f0 f1 f2 f3 f5 f6 f7 f8 f9 f10 f11 ∗ pt c arg4 f4 ∗ pt c arg12 f12)
    ∗ ⌜Upto 300 (rdC arg5 f5) (fun r => (outRow X0 X1 X2 X3 S r).1)
      ∧ Upto 300 (rdC arg6 f6) (fun r => (outRow X0 X1 X2 X3 S r).2.1)
      ∧ Upto 300 (rdC arg7 f7) (fun r => (outRow X0 X1 X2 X3 S r).2.2.1)
      ∧ Upto 300 (rdC arg8 f8) (fun r => (outRow X0 X1 X2 X3 S r).2.2.2.1)
      ∧ Upto 300 (rdC arg9 f9) (fun r => (outRow X0 X1 X2 X3 S r).2.2.2.2)⌝)

/-- One trip keeps the invariant. -/
theorem inv_step (f0 : Bf (F := F) c arg0) (f1 : Bf (F := F) c arg1) (f2 : Bf (F := F) c arg2) (f3 : Bf (F := F) c arg3) (f11 : Bf (F := F) c arg11) (S : Plane F)
    (k : Fin k0_t1_loop.trips) (acc : Carry F) :
    Inv c arg0 arg1 arg2 arg3 arg5 arg6 arg7 arg8 arg9 arg10 arg11 f0 f1 f2 f3 f11 S k.val acc
      ⊢ wp frame (wpE (defs₀ (F := F)) 𝒱₀ c none) Set.univ (k0_t1_body arg0 harg0 arg1 harg1 arg2 harg2 arg3 harg3 arg4 harg4 arg5 harg5 arg6 harg6 arg7 harg7 arg8 harg8 arg9 harg9 arg10 harg10 arg11 harg11 arg12 harg12 numbers k acc)
          (Inv c arg0 arg1 arg2 arg3 arg5 arg6 arg7 arg8 arg9 arg10 arg11 f0 f1 f2 f3 f11 S (k.val + 1)) := by
  unfold Inv
  iintro ⟨%f5, %f6, %f7, %f8, %f9, %f10, H, %hp⟩
  obtain ⟨hl, hc, ha, h5, h6, h7, h8, h9⟩ := hp
  have hs : (⟨rd arg10 f10, acc⟩ : St F) = iter (rd arg0 f0) (rd arg1 f1) (rd arg2 f2) (rd arg3 f3) S k.val := by
    rw [hl, hc]
  have ht := trip c arg0 harg0 arg1 harg1 arg2 harg2 arg3 harg3 arg4 harg4 arg5 harg5 arg6 harg6 arg7 harg7 arg8 harg8 arg9 harg9 arg10 harg10 arg11 harg11 arg12 harg12 f0 f1 f2 f3 f5 f6 f7 f8 f9 f10 f11 numbers k acc
  rw [hs] at ht
  istop
  refine ht.trans (wp_mono _ _ _ fun acc' => ?_)
  unfold Post
  iintro ⟨%f5', %f6', %f7', %f8', %f9', %f10', H, %hq⟩
  obtain ⟨gl, gc, g5, g6, g7, g8, g9⟩ := hq
  iexists f5', f6', f7', f8', f9', f10'
  isplitl [H]
  · iexact H
  ipureintro
  have e0 := outRow_even (rd arg0 f0) (rd arg1 f1) (rd arg2 f2) (rd arg3 f3) S k.val
  have e1 := outRow_odd (rd arg0 f0) (rd arg1 f1) (rd arg2 f2) (rd arg3 f3) S k.val
  rw [ha] at gl gc g5 g6 g7 g8 g9
  refine ⟨gl, gc, ha, h5.puts g5 ?_ ?_, h6.puts g6 ?_ ?_, h7.puts g7 ?_ ?_, h8.puts g8 ?_ ?_, h9.puts g9 ?_ ?_⟩
  all_goals first | (show _ = (outRow _ _ _ _ _ (2 * k.val + 1)).1; rw [e1]) | (show _ = (outRow _ _ _ _ _ (2 * k.val)).1; rw [e0]) | (show _ = (outRow _ _ _ _ _ _).2.1; first | rw [e0] | rw [e1]) | (show _ = (outRow _ _ _ _ _ _).2.2.1; first | rw [e0] | rw [e1]) | (show _ = (outRow _ _ _ _ _ _).2.2.2.1; first | rw [e0] | rw [e1]) | (show _ = (outRow _ _ _ _ _ _).2.2.2.2; first | rw [e0] | rw [e1])

set_option maxRecDepth 20000 in
/-- The body. -/
theorem body (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) :
    iprop(Held c arg0 arg1 arg2 arg3 arg5 arg6 arg7 arg8 arg9 arg10 arg11 f0 f1 f2 f3 f5 f6 f7 f8 f9 f10 f11 ∗ pt c arg4 f4 ∗ pt c arg12 f12)
      ⊢ wp frame (wpE (defs₀ (F := F)) 𝒱₀ c none) Set.univ (cc0__nms_body arg0 harg0 arg1 harg1 arg2 harg2 arg3 harg3 arg4 harg4 arg5 harg5 arg6 harg6 arg7 harg7 arg8 harg8 arg9 harg9 arg10 harg10 arg11 harg11 arg12 harg12)
          (fun _ => Done c arg0 arg1 arg2 arg3 arg4 arg5 arg6 arg7 arg8 arg9 arg10 arg11 arg12 f0 f1 f2 f3 f4) := by
  rw [cc0__nms_body_eq_skeleton]
  sl_unfold [cc0__nms_body_skel]
  iintro ⟨⟨H0, H1, H2, H3, H5, H6, H7, H8, H9, H10, H11⟩, H4, H12⟩
  have hI : arg12.view.readCov (Val := Elt F) [⟨Rect.unit (s := S160x128) ![0, 0] S160x128.size inb_S160x128_S160x128_0_0, k0_pay87⟩]
        (Rect.unit (s := S160x128) ![0, 0] S160x128.size inb_S160x128_S160x128_0_0).toLoadRect = numbers :=
    View.readCov_full arg12.view _ _ _ _
  sl_exec
  sl_for (Inv c arg0 arg1 arg2 arg3 arg5 arg6 arg7 arg8 arg9 arg10 arg11 f0 f1 f2 f3 (arg11.view.writes (Elt F) arg11.view.junk [⟨Rect.unit (s := S160x128) ![0, 0] S160x128.size inb_S160x128_S160x128_0_0, areas (rd arg0 f0) (rd arg1 f1) (rd arg2 f2) (rd arg3 f3)⟩]) (rd arg4 f4)) $$ [H0 H1 H2 H3 H5 H6 H7 H8 H9 H10 H11]
  case region =>
    intro k acc
    exact inv_step c arg0 harg0 arg1 harg1 arg2 harg2 arg3 harg3 arg4 harg4 arg5 harg5 arg6 harg6 arg7 harg7 arg8 harg8 arg9 harg9 arg10 harg10 arg11 harg11 arg12 harg12 f0 f1 f2 f3 _ (rd arg4 f4) k acc
  · unfold Inv
    iexists f5, f6, f7, f8, f9, _
    isplitl [H0 H1 H2 H3 H5 H6 H7 H8 H9 H10 H11]
    · sl_close
    ipureintro
    refine ⟨(View.readAt_writes_full arg10.view arg10.view.junk _ _ _ _).trans rfl, rfl, (View.readAt_writes_full arg11.view arg11.view.junk _ _ _ _), ?_, ?_, ?_, ?_, ?_⟩
    all_goals (intro r hr; exact absurd hr (by omega))
  iintro %acc HI
  unfold Inv
  icases HI with ⟨%g5, %g6, %g7, %g8, %g9, %g10, H, %hq⟩
  sl_exec
  sl_step
  have ht : Scf.trips k0_t1_loop.lb k0_t1_loop.ub k0_t1_loop.st = 150 := by decide
  rw [ht] at hq
  obtain ⟨-, -, -, h5, h6, h7, h8, h9⟩ := hq
  unfold Done
  iexists g5, g6, g7, g8, g9, g10, _, _
  isplitl [H H4 H12]
  · isplitl [H]
    · iexact H
    isplitl [H4]
    · iexact H4
    iexact H12
  ipureintro
  exact ⟨h5, h6, h7, h8, h9⟩
end
end Cert.Proof.Nms
end
-- ==== Proof.Run.lean ====
module

public import proofs.«01_k».proof.Proof.Body

@[expose] public section

set_option maxRecDepth 16384

noncomputable section

/-! The kernel's run: what the five result columns hold when the program ends, and that it ends quiet. -/

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UU ℕ

/-- A whole memref's view is of every element of its buffer. -/
theorem whole_set {sp : Space} {S : Shape} {e : EltTy} (M : Memref sig .tc sp S e) (h : M.IsWhole) : M.view.set = Finset.univ := by
  obtain ⟨b, rfl, rfl, rfl, hm⟩ := h; cases hm; simp only [Memref.view_whole, View.set_whole]

/-- A whole memref, owned at what it reads, is its buffer held whole at contents that read that. -/
theorem owns_pt (c : Dev nD) {S : Shape} {e : EltTy} (M : Memref sig .tc .vmem S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [whole_set M h]

/-- Every row of a column is below 300. -/
theorem column {C : S300x1.Idx → F .f32} {o : ℕ → F .f32} (h : Upto 300 C o) : C = fun r => o (r 0).val :=
  funext fun r => h r (r 0).isLt

section
variable (c : Dev nD) (arg0 : Memref sig .tc .vmem S160x128 .f32) (harg0 : arg0.IsWhole) (arg1 : Memref sig .tc .vmem S160x128 .f32) (harg1 : arg1.IsWhole) (arg2 : Memref sig .tc .vmem S160x128 .f32) (harg2 : arg2.IsWhole) (arg3 : Memref sig .tc .vmem S160x128 .f32) (harg3 : arg3.IsWhole) (arg4 : Memref sig .tc .vmem S160x128 .f32) (harg4 : arg4.IsWhole) (arg5 : Memref sig .tc .vmem S300x1 .f32) (harg5 : arg5.IsWhole) (arg6 : Memref sig .tc .vmem S300x1 .f32) (harg6 : arg6.IsWhole) (arg7 : Memref sig .tc .vmem S300x1 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S160x128 .f32) (harg10 : arg10.IsWhole) (arg11 : Memref sig .tc .vmem S160x128 .f32) (harg11 : arg11.IsWhole) (arg12 : Memref sig .tc .vmem S160x128 .f32) (harg12 : arg12.IsWhole)

/-- A load of a whole plane is the plane. -/
theorem rd_read (M : Memref sig .tc .vmem S160x128 .f32) (f : Bf (F := F) c M) : rd M f = M.view.read (Elt F) f :=
  View.readAt_full M.view f _

/-- The body, from the memrefs owned at what they read: the five planes stay, the five columns end at the rows of the result. -/
theorem body_owns (X0 X1 X2 X3 S : Plane F) :
    iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare S
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (∃ f, pt c arg10 f) ∗ (∃ f, pt c arg11 f) ∗ (∃ f, pt c arg12 f))
      ⊢ wp frame (wpE (defs₀ (F := F)) 𝒱₀ c none) Set.univ (cc0__nms_body arg0 harg0 arg1 harg1 arg2 harg2 arg3 harg3 arg4 harg4 arg5 harg5 arg6 harg6 arg7 harg7 arg8 harg8 arg9 harg9 arg10 harg10 arg11 harg11 arg12 harg12)
          (fun _ => iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare S
        ∗ owns (c : Thread nD τ) arg5 fullShare (fun r : S300x1.Idx => (outRow X0 X1 X2 X3 S (r 0).val).1) ∗ owns (c : Thread nD τ) arg6 fullShare (fun r : S300x1.Idx => (outRow X0 X1 X2 X3 S (r 0).val).2.1) ∗ owns (c : Thread nD τ) arg7 fullShare (fun r : S300x1.Idx => (outRow X0 X1 X2 X3 S (r 0).val).2.2.1) ∗ owns (c : Thread nD τ) arg8 fullShare (fun r : S300x1.Idx => (outRow X0 X1 X2 X3 S (r 0).val).2.2.2.1) ∗ owns (c : Thread nD τ) arg9 fullShare (fun r : S300x1.Idx => (outRow X0 X1 X2 X3 S (r 0).val).2.2.2.2)
        ∗ (∃ f, pt c arg10 f) ∗ (∃ f, pt c arg11 f) ∗ (∃ f, pt c arg12 f))) := by
  simp only [owns_pt c arg0 harg0, owns_pt c arg1 harg1, owns_pt c arg2 harg2, owns_pt c arg3 harg3, owns_pt c arg4 harg4, owns_pt c arg5 harg5, owns_pt c arg6 harg6, owns_pt c arg7 harg7, owns_pt c arg8 harg8, owns_pt c arg9 harg9]
  iintro ⟨⟨%f0, %e0, H0⟩, ⟨%f1, %e1, H1⟩, ⟨%f2, %e2, H2⟩, ⟨%f3, %e3, H3⟩, ⟨%f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%f10, H10⟩, ⟨%f11, H11⟩, ⟨%f12, H12⟩⟩
  have hb := body c arg0 harg0 arg1 harg1 arg2 harg2 arg3 harg3 arg4 harg4 arg5 harg5 arg6 harg6 arg7 harg7 arg8 harg8 arg9 harg9 arg10 harg10 arg11 harg11 arg12 harg12 f0 f1 f2 f3 f4 f5 f6 f7 f8 f9 f10 f11 f12
  iapply (wp_wand _ _ _) $$ [H0 H1 H2 H3 H4 H5 H6 H7 H8 H9 H10 H11 H12]
  · iapply hb
    isplitl [H0 H1 H2 H3 H5 H6 H7 H8 H9 H10 H11]
    · isplitl [H0]; · iexact H0
      isplitl [H1]; · iexact H1
      isplitl [H2]; · iexact H2
      isplitl [H3]; · iexact H3
      isplitl [H5]; · iexact H5
      isplitl [H6]; · iexact H6
      isplitl [H7]; · iexact H7
      isplitl [H8]; · iexact H8
      isplitl [H9]; · iexact H9
      isplitl [H10]; · iexact H10
      iexact H11
    isplitl [H4]; · iexact H4
    iexact H12
  iintro %u HD
  unfold Done
  icases HD with ⟨%g5, %g6, %g7, %g8, %g9, %g10, %g11, %g12, ⟨⟨G0, G1, G2, G3, G5, G6, G7, G8, G9, G10, G11⟩, G4, G12⟩, %hq⟩
  rw [rd_read, rd_read, rd_read, rd_read, rd_read, e0, e1, e2, e3, e4] at hq
  obtain ⟨h5, h6, h7, h8, h9⟩ := hq
  isplitl [G0]
  · iexists f0; isplitr; · ipureintro; exact e0
    iexact G0
  isplitl [G1]
  · iexists f1; isplitr; · ipureintro; exact e1
    iexact G1
  isplitl [G2]
  · iexists f2; isplitr; · ipureintro; exact e2
    iexact G2
  isplitl [G3]
  · iexists f3; isplitr; · ipureintro; exact e3
    iexact G3
  isplitl [G4]
  · iexists f4; isplitr; · ipureintro; exact e4
    iexact G4
  isplitl [G5]
  · iexists g5; isplitr; · ipureintro; exact (column h5)
    iexact G5
  isplitl [G6]
  · iexists g6; isplitr; · ipureintro; exact (column h6)
    iexact G6
  isplitl [G7]
  · iexists g7; isplitr; · ipureintro; exact (column h7)
    iexact G7
  isplitl [G8]
  · iexists g8; isplitr; · ipureintro; exact (column h8)
    iexact G8
  isplitl [G9]
  · iexists g9; isplitr; · ipureintro; exact (column h9)
    iexact G9
  isplitl [G10]; · iexists _; iexact G10
  isplitl [G11]; · iexists _; iexact G11
  iexists _; iexact G12
end

variable (m : (ℓ : Loc nD τ sig) → Buf (Elt F) ℓ) (ρ : Dev nD → PrngReg)

/-- Row `r` of the result, from the planes the region finds on core `c`. -/
def rows (c : Dev nD) (r : ℕ) : F .f32 × F .f32 × F .f32 × F .f32 × F .f32 :=
  outRow (iblk m c 0 t0_0) (iblk m c 1 t0_0) (iblk m c 2 t0_0) (iblk m c 3 t0_0) (iblk m c 4 t0_0) r

/-- The proof data on core `c`: the inputs stay, the five columns hold the rows of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun r : S300x1.Idx => (rows m c (r 0).val).1
    | ⟨6, _⟩ => fun r : S300x1.Idx => (rows m c (r 0).val).2.1
    | ⟨7, _⟩ => fun r : S300x1.Idx => (rows m c (r 0).val).2.2.1
    | ⟨8, _⟩ => fun r : S300x1.Idx => (rows m c (r 0).val).2.2.2.1
    | ⟨9, _⟩ => fun r : S300x1.Idx => (rows m c (r 0).val).2.2.2.2
  Φ _ := Pipeline.ΦA spec0 c
  q _ := fullShare
  owed _ := 0

/-- What the body is called with at the one point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

/-- The invariant between the region's ends: the three scratch planes at something, the generator register at something. -/
theorem phi_eq (c : Dev nD) : (Pipeline.ΦA spec0 c : sProp 𝕄)
    = iprop(((∃ f, pt c (Memref.whole cc0_scratch0) f) ∗ (∃ f, pt c (Memref.whole cc0_scratch1) f) ∗ (∃ f, pt c (Memref.whole cc0_scratch2) f))
        ∗ ∃ r, prngReg c r) := by
  unfold Pipeline.ΦA; rw [scopedRest0_eq]

/-- What the body leaves in each window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (fun r : S300x1.Idx => (rows m c (r 0).val).1) := by dsimp only [dats]
theorem after_6 (c : Dev nD) (t : Fin cfg0.N) : (dats m 0 c).after 6 t = (fun r : S300x1.Idx => (rows m c (r 0).val).2.1) := by dsimp only [dats]
theorem after_7 (c : Dev nD) (t : Fin cfg0.N) : (dats m 0 c).after 7 t = (fun r : S300x1.Idx => (rows m c (r 0).val).2.2.1) := by dsimp only [dats]
theorem after_8 (c : Dev nD) (t : Fin cfg0.N) : (dats m 0 c).after 8 t = (fun r : S300x1.Idx => (rows m c (r 0).val).2.2.2.1) := by dsimp only [dats]
theorem after_9 (c : Dev nD) (t : Fin cfg0.N) : (dats m 0 c).after 9 t = (fun r : S300x1.Idx => (rows m c (r 0).val).2.2.2.2) := by dsimp only [dats]
theorem dat_A (c : Dev nD) (w : Fin cfg0.W) : (dats m 0 c).A w = V m c (Pipeline.arrRef spec0 w) := by dsimp only [dats]
/-- What the body finds in each input window. -/
theorem before_0 (c : Dev nD) (t : Fin cfg0.N) (d) : (dats m 0 c).before 0 t d = iblk m c 0 t := before0_0_of m (dats m 0 c) (dat_A m c 0) (after_0 m c) t d
theorem before_1 (c : Dev nD) (t : Fin cfg0.N) (d) : (dats m 0 c).before 1 t d = iblk m c 1 t := before0_1_of m (dats m 0 c) (dat_A m c 1) (after_1 m c) t d
theorem before_2 (c : Dev nD) (t : Fin cfg0.N) (d) : (dats m 0 c).before 2 t d = iblk m c 2 t := before0_2_of m (dats m 0 c) (dat_A m c 2) (after_2 m c) t d
theorem before_3 (c : Dev nD) (t : Fin cfg0.N) (d) : (dats m 0 c).before 3 t d = iblk m c 3 t := before0_3_of m (dats m 0 c) (dat_A m c 3) (after_3 m c) t d
theorem before_4 (c : Dev nD) (t : Fin cfg0.N) (d) : (dats m 0 c).before 4 t d = iblk m c 4 t := before0_4_of m (dats m 0 c) (dat_A m c 4) (after_4 m c) t d

set_option maxHeartbeats 1000000 in
/-- The body at the point. -/
theorem sound_body (c : Dev nD) (t : Fin cfg0.N) :
    bodyPre m c t ⊢ wp frame (wpE (defs₀ (F := F)) 𝒱₀ c none) Set.univ (bodyAt0 t) (fun _ => bodyPost m c t) := by
  obtain rfl : t = t0_0 := fin_N0 t
  unfold bodyPre bodyPost bodyAt0
  rw [show (dats m 0 c).Φ t0_0.succ = (dats m 0 c).Φ t0_0.castSucc from rfl,
    show (dats m 0 c).owesAt () t0_0.succ = (dats m 0 c).owesAt () t0_0.castSucc from rfl,
    show (dats m 0 c).Φ t0_0.castSucc = Pipeline.ΦA spec0 c from rfl, phi_eq]
  simp only [before_0]
  simp only [before_1]
  simp only [before_2]
  simp only [before_3]
  simp only [before_4]
  rw [after_0, after_1, after_2, after_3, after_4,
    after_5,
    after_6,
    after_7,
    after_8,
    after_9]
  iintro ⟨⟨⟨H10, H11, H12⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand _ _ _) $$ [H0 H1 H2 H3 H4 H5 H6 H7 H8 H9 H10 H11 H12]
  · iapply (body_owns c (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0) (st0_6 t0_0) (hstage0_6 0) (st0_7 t0_0) (hstage0_7 0) (st0_8 t0_0) (hstage0_8 0) (st0_9 t0_0) (hstage0_9 0) (Memref.whole cc0_scratch0) (Memref.isWhole_whole _) (Memref.whole cc0_scratch1) (Memref.isWhole_whole _) (Memref.whole cc0_scratch2) (Memref.isWhole_whole _) (iblk m c 0 t0_0) (iblk m c 1 t0_0) (iblk m c 2 t0_0) (iblk m c 3 t0_0) (iblk m c 4 t0_0))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [H11]; · iexact H11
    iexact H12
  iintro %u ⟨H0, H1, H2, H3, H4, H5, H6, H7, H8, H9, H10, H11, H12⟩
  isplitl [H10 H11 H12 Hg]
  · isplitl [H10 H11 H12]
    · isplitl [H10]; · iexact H10
      isplitl [H11]; · iexact H11
      iexact H12
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The program runs, every buffer ends at what the proof data say, and every counter ends at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := Gen.hmain m 𝒱₀) (hA := fun _ _ => rfl) (hΦ := fun _ _ => rfl)

/-- The program runs, leaves its arguments, and ends with every counter at zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ (h : _ ∧ _) => ⟨fun c => ⟨
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c))⟩, h.2⟩) (run_main m ρ)

end Cert.Proof.Nms
end
-- ==== Proof.Same.lean ====
/- The kernel read at the machine's floats is the same program as the kernel read at the extended reals: the two
   printed modules name the same signature, launch table and `main`. So the run proved of the second at any
   floats is a run of the first. -/
module

public import proofs.«01_k».proof.Defs
public import proofs.«01_k».proof.Proof.Run
public import proofs.«01_k».proof.Proof.Gen.Kernel

@[expose] public section

noncomputable section

namespace Cert.Proof.Same

open Idealize.ShloMosaic Idealize.SL.Sem

set_option backward.isDefEq.respectTransparency false

/-- The two kernel functions are one. -/
theorem body_eq : @Kernel.cc0__nms_body Bits _ _ = @KernelIdeal.cc0__nms_body Bits _ _ := rfl

/-- The two body tables are one: label by label, they call the same function on the same buffers. -/
theorem table_eq : Kernel.defs₀ (F := Bits) = KernelIdeal.defs₀ (F := Bits) :=
  congrArg (Defs.onTc (nD := Kernel.nD) (τ := Kernel.τ) (sig := Kernel.sig) (Val := Elt Bits) (Λ := Kernel.Λ₀)) (funext fun l => by
    match l with
    | 0 => exact funext fun ⟨t, s⟩ => rfl
    | ⟨n + 1, h⟩ => exact absurd h (Nat.not_lt.2 (Nat.le_add_left _ _)))

/-- So are the two programs' tables with the pipeline's labels beside them. -/
theorem defs_eq : Kernel.defs (F := Bits) = KernelIdeal.defs (F := Bits) :=
  congrArg (Pipeline.defs (Kernel.pcfgs (F := Bits))) table_eq

/-- The kernel at the machine's floats runs, leaves its arguments, and ends with every counter at zero. -/
theorem quiet : quiescent_Kernel := fun m ρ _ => by
  rw [defs_eq]
  exact Nms.quiet (F := Bits) m ρ

end Cert.Proof.Same
end
-- ==== Proof.RefRun.lean ====
/- The reference's run: its operations as lists, the counted loop's three hundred trips, and what every buffer holds
   at the end. -/
module

public import proofs.«01_k».proof.Defs
public import proofs.«01_k».proof.Proof.Gen.ReferenceIdeal
public import Idealize.ShloMosaic.Lib.StableHlo.RunLoop
public import Idealize.ShloMosaic.Lib.StableHlo.RunRead
public import Idealize.ShloMosaic.Lib.Scf.Counter
public import Idealize.ShloMosaic.Lib.Scf.ExitTest
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held nullary_bufs_sub unary_bufs_sub binary_bufs_sub ternary_bufs_sub quaternary_bufs_sub reshape_bufs_sub unaryIndexed_bufs_sub binaryIndexed_bufs_sub)
open Idealize.ShloMosaic.Pipeline (sub_ucRefs)

variable {F : FTy → Type} [FloatOps F]

/-- The operations before the loop. -/
abbrev preOps : List (HloOp τ sig (Elt F)) :=
  [ StableHlo.nullary main_cst (constant S_ .f32 0xF149F2CA#32),
    StableHlo.nullary main_c (constantI S_ 32 0#32),
    StableHlo.unary main_c main_v0 (broadcastInDim S300 ![] bcast_S_S300),
    StableHlo.nullary main_c_0 (constantI S_ 1 0#1),
    StableHlo.unary main_c_0 main_v1 (broadcastInDim S300 ![] bcast_S_S300),
    StableHlo.nullary main_c_1 (constantI S_ 32 0#32),
    StableHlo.unary main_cst main_v2_0 id,
    StableHlo.unary main_arg0 main_v2_1 id,
    StableHlo.unary main_c_1 main_v2_2 id,
    StableHlo.unary main_arg1 main_v2_3 id,
    StableHlo.unary main_v0 main_v2_4 id,
    StableHlo.unary main_v1 main_v2_5 id ]

/-- The operations touch main memory only. -/
theorem preOps_sub : (preOps : List (HloOp τ sig (Elt F))).Forall fun op => op.bufs ⊆ StableHlo.tcRefs τ sig :=
  ⟨nullary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩

/-- The loop condition's operations. -/
abbrev condOps : List (HloOp τ sig (Elt F)) :=
  [ StableHlo.nullary main_while0c_c_11 (constantI S_ 32 300#32),
    StableHlo.binary main_v2_2 main_while0c_c_11 main_while0c_v24 (cmpi .slt) ]

/-- The operations touch main memory only. -/
theorem condOps_sub : (condOps : List (HloOp τ sig (Elt F))).Forall fun op => op.bufs ⊆ StableHlo.tcRefs τ sig :=
  ⟨nullary_bufs_sub .., binary_bufs_sub ..⟩

/-- A called function's operations, in order. -/
abbrev ops0 : List (HloOp τ sig (Elt F)) :=
  [ StableHlo.nullary main_while0b_call0_v0 (iotaInDim S20000 32 0),
    StableHlo.nullary main_while0b_call0_cst (constant S_ .f32 0xFF800000#32),
    StableHlo.nullary main_while0b_call0_c (constantI S_ 32 0#32),
    StableHlo.quaternary main_v2_3 main_while0b_call0_v0 main_while0b_call0_cst main_while0b_call0_c main_while0b_call0_v1_0 (fun x y u v j => (Host.argReduce reducer_argmax_f32_i32 x y u v reducesTo_S20000_S_d0 h_S_ j).1),
    StableHlo.quaternary main_v2_3 main_while0b_call0_v0 main_while0b_call0_cst main_while0b_call0_c main_while0b_v24 (fun x y u v j => (Host.argReduce reducer_argmax_f32_i32 x y u v reducesTo_S20000_S_d0 h_S_ j).2) ]

/-- The operations touch main memory only. -/
theorem ops0_sub : (ops0 : List (HloOp τ sig (Elt F))).Forall fun op => op.bufs ⊆ StableHlo.tcRefs τ sig :=
  ⟨nullary_bufs_sub .., nullary_bufs_sub .., nullary_bufs_sub .., quaternary_bufs_sub .., quaternary_bufs_sub ..⟩

/-- A stretch of the loop body's operations, in order. -/
abbrev ops1 : List (HloOp τ sig (Elt F)) :=
  [ StableHlo.nullary main_while0b_c_11 (constantI S_ 32 0#32),
    StableHlo.binary main_while0b_v24 main_while0b_c_11 main_while0b_v25 (cmpi .slt),
    StableHlo.nullary main_while0b_c_12 (constantI S_ 32 20000#32),
    StableHlo.binary main_while0b_v24 main_while0b_c_12 main_while0b_v26 (addi),
    StableHlo.ternary main_while0b_v25 main_while0b_v26 main_while0b_v24 main_while0b_v27 (select),
    StableHlo.unaryIndexed main_v2_3 ![main_while0b_v27] ⟨S_, .i32⟩ main_while0b_v28 ((fun x i => Host.dynamicSlice S1 x (fun k => (i k (Shape.Idx.first h_S_)).toInt) sliceFits_S20000_S1)),
    StableHlo.reshape main_while0b_v28 main_while0b_v29 rfl shapeCasts_S1_S_,
    StableHlo.nullary main_while0b_cst_13 (constant S_ .f32 0x3F000000#32),
    StableHlo.binary main_v2_0 main_while0b_cst_13 main_while0b_v30 (mulf),
    StableHlo.binary main_while0b_v29 main_while0b_v30 main_while0b_v31 (cmpf .ogt),
    StableHlo.nullary main_while0b_c_14 (constantI S_ 32 0#32),
    StableHlo.binary main_while0b_v24 main_while0b_c_14 main_while0b_v32 (cmpi .slt),
    StableHlo.nullary main_while0b_c_15 (constantI S_ 32 20000#32),
    StableHlo.binary main_while0b_v24 main_while0b_c_15 main_while0b_v33 (addi),
    StableHlo.ternary main_while0b_v32 main_while0b_v33 main_while0b_v24 main_while0b_v34 (select),
    StableHlo.nullary main_while0b_c_16 (constantI S_ 32 0#32),
    StableHlo.nullary main_while0b_c_17 (constantI S_ 32 0#32),
    StableHlo.binary main_while0b_c_16 main_while0b_c_17 main_while0b_v35 (cmpi .slt),
    StableHlo.nullary main_while0b_c_18 (constantI S_ 32 0#32),
    StableHlo.nullary main_while0b_c_19 (constantI S_ 32 4#32),
    StableHlo.binary main_while0b_c_18 main_while0b_c_19 main_while0b_v36 (addi),
    StableHlo.nullary main_while0b_c_20 (constantI S_ 32 0#32),
    StableHlo.ternary main_while0b_v35 main_while0b_v36 main_while0b_c_20 main_while0b_v37 (select),
    StableHlo.unaryIndexed main_v2_1 ![main_while0b_v34, main_while0b_v37] ⟨S_, .i32⟩ main_while0b_v38 ((fun x i => Host.dynamicSlice S1x4 x (fun k => (i k (Shape.Idx.first h_S_)).toInt) sliceFits_S20000x4_S1x4)),
    StableHlo.reshape main_while0b_v38 main_while0b_v39 rfl shapeCasts_S1x4_S4,
    StableHlo.unary main_while0b_v39 main_while0b_v40 ((extractStridedSlice S1 ![0] · slices_S4_S1_0)),
    StableHlo.reshape main_while0b_v40 main_while0b_v41 rfl shapeCasts_S1_S_,
    StableHlo.unary main_v2_1 main_while0b_v42 ((extractStridedSlice S20000x1 ![0, 0] · slices_S20000x4_S20000x1_0_0)),
    StableHlo.reshape main_while0b_v42 main_while0b_v43 rfl shapeCasts_S20000x1_S20000,
    StableHlo.unary main_while0b_v41 main_while0b_v44 (broadcastInDim S20000 ![] bcast_S_S20000),
    StableHlo.binary main_while0b_v44 main_while0b_v43 main_while0b_v45 (maximumf),
    StableHlo.unary main_while0b_v39 main_while0b_v46 ((extractStridedSlice S1 ![1] · slices_S4_S1_1)),
    StableHlo.reshape main_while0b_v46 main_while0b_v47 rfl shapeCasts_S1_S_,
    StableHlo.unary main_v2_1 main_while0b_v48 ((extractStridedSlice S20000x1 ![0, 1] · slices_S20000x4_S20000x1_0_1)),
    StableHlo.reshape main_while0b_v48 main_while0b_v49 rfl shapeCasts_S20000x1_S20000,
    StableHlo.unary main_while0b_v47 main_while0b_v50 (broadcastInDim S20000 ![] bcast_S_S20000),
    StableHlo.binary main_while0b_v50 main_while0b_v49 main_while0b_v51 (maximumf),
    StableHlo.unary main_while0b_v39 main_while0b_v52 ((extractStridedSlice S1 ![2] · slices_S4_S1_2)),
    StableHlo.reshape main_while0b_v52 main_while0b_v53 rfl shapeCasts_S1_S_,
    StableHlo.unary main_v2_1 main_while0b_v54 ((extractStridedSlice S20000x1 ![0, 2] · slices_S20000x4_S20000x1_0_2)),
    StableHlo.reshape main_while0b_v54 main_while0b_v55 rfl shapeCasts_S20000x1_S20000,
    StableHlo.unary main_while0b_v53 main_while0b_v56 (broadcastInDim S20000 ![] bcast_S_S20000),
    StableHlo.binary main_while0b_v56 main_while0b_v55 main_while0b_v57 (minimumf),
    StableHlo.unary main_while0b_v39 main_while0b_v58 ((extractStridedSlice S1 ![3] · slices_S4_S1_3)),
    StableHlo.reshape main_while0b_v58 main_while0b_v59 rfl shapeCasts_S1_S_,
    StableHlo.unary main_v2_1 main_while0b_v60 ((extractStridedSlice S20000x1 ![0, 3] · slices_S20000x4_S20000x1_0_3)),
    StableHlo.reshape main_while0b_v60 main_while0b_v61 rfl shapeCasts_S20000x1_S20000,
    StableHlo.unary main_while0b_v59 main_while0b_v62 (broadcastInDim S20000 ![] bcast_S_S20000),
    StableHlo.binary main_while0b_v62 main_while0b_v61 main_while0b_v63 (minimumf),
    StableHlo.binary main_while0b_v57 main_while0b_v45 main_while0b_v64 (subf),
    StableHlo.nullary main_while0b_cst_21 (constant S_ .f32 0x00000000#32) ]

/-- The operations touch main memory only. -/
theorem ops1_sub : (ops1 : List (HloOp τ sig (Elt F))).Forall fun op => op.bufs ⊆ StableHlo.tcRefs τ sig :=
  ⟨nullary_bufs_sub .., binary_bufs_sub .., nullary_bufs_sub .., binary_bufs_sub .., ternary_bufs_sub .., unaryIndexed_bufs_sub .., reshape_bufs_sub .., nullary_bufs_sub .., binary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., binary_bufs_sub .., nullary_bufs_sub ..⟩

/-- A called function's operations, in order. -/
abbrev ops2 : List (HloOp τ sig (Elt F)) :=
  [ StableHlo.unary main_while0b_cst_21 main_while0b_call1_v0 id,
    StableHlo.unary main_while0b_call1_v0 main_while0b_call1_v1 (broadcastInDim S20000 ![] bcast_S_S20000),
    StableHlo.binary main_while0b_call1_v1 main_while0b_v64 main_while0b_v65 maximumf ]

/-- The operations touch main memory only. -/
theorem ops2_sub : (ops2 : List (HloOp τ sig (Elt F))).Forall fun op => op.bufs ⊆ StableHlo.tcRefs τ sig :=
  ⟨unary_bufs_sub .., unary_bufs_sub .., binary_bufs_sub ..⟩

/-- A stretch of the loop body's operations, in order. -/
abbrev ops3 : List (HloOp τ sig (Elt F)) :=
  [ StableHlo.binary main_while0b_v63 main_while0b_v51 main_while0b_v66 (subf),
    StableHlo.nullary main_while0b_cst_22 (constant S_ .f32 0x00000000#32) ]

/-- The operations touch main memory only. -/
theorem ops3_sub : (ops3 : List (HloOp τ sig (Elt F))).Forall fun op => op.bufs ⊆ StableHlo.tcRefs τ sig :=
  ⟨binary_bufs_sub .., nullary_bufs_sub ..⟩

/-- A called function's operations, in order. -/
abbrev ops4 : List (HloOp τ sig (Elt F)) :=
  [ StableHlo.unary main_while0b_cst_22 main_while0b_call2_v0 id,
    StableHlo.unary main_while0b_call2_v0 main_while0b_call2_v1 (broadcastInDim S20000 ![] bcast_S_S20000),
    StableHlo.binary main_while0b_call2_v1 main_while0b_v66 main_while0b_v67 maximumf ]

/-- The operations touch main memory only. -/
theorem ops4_sub : (ops4 : List (HloOp τ sig (Elt F))).Forall fun op => op.bufs ⊆ StableHlo.tcRefs τ sig :=
  ⟨unary_bufs_sub .., unary_bufs_sub .., binary_bufs_sub ..⟩

/-- A stretch of the loop body's operations, in order. -/
abbrev ops5 : List (HloOp τ sig (Elt F)) :=
  [ StableHlo.binary main_while0b_v65 main_while0b_v67 main_while0b_v68 (mulf),
    StableHlo.unary main_while0b_v39 main_while0b_v69 ((extractStridedSlice S1 ![2] · slices_S4_S1_2)),
    StableHlo.reshape main_while0b_v69 main_while0b_v70 rfl shapeCasts_S1_S_,
    StableHlo.unary main_while0b_v39 main_while0b_v71 ((extractStridedSlice S1 ![0] · slices_S4_S1_0)) ]

/-- The operations touch main memory only. -/
theorem ops5_sub : (ops5 : List (HloOp τ sig (Elt F))).Forall fun op => op.bufs ⊆ StableHlo.tcRefs τ sig :=
  ⟨binary_bufs_sub .., unary_bufs_sub .., reshape_bufs_sub .., unary_bufs_sub ..⟩

/-- A stretch of the loop body's operations, in order. -/
abbrev ops6 : List (HloOp τ sig (Elt F)) :=
  [ StableHlo.reshape main_while0b_v71 main_while0b_v72 rfl shapeCasts_S1_S_,
    StableHlo.binary main_while0b_v70 main_while0b_v72 main_while0b_v73 (subf),
    StableHlo.unary main_while0b_v39 main_while0b_v74 ((extractStridedSlice S1 ![3] · slices_S4_S1_3)),
    StableHlo.reshape main_while0b_v74 main_while0b_v75 rfl shapeCasts_S1_S_,
    StableHlo.unary main_while0b_v39 main_while0b_v76 ((extractStridedSlice S1 ![1] · slices_S4_S1_1)),
    StableHlo.reshape main_while0b_v76 main_while0b_v77 rfl shapeCasts_S1_S_,
    StableHlo.binary main_while0b_v75 main_while0b_v77 main_while0b_v78 (subf),
    StableHlo.binary main_while0b_v73 main_while0b_v78 main_while0b_v79 (mulf),
    StableHlo.unary main_v2_1 main_while0b_v80 ((extractStridedSlice S20000x1 ![0, 2] · slices_S20000x4_S20000x1_0_2)),
    StableHlo.reshape main_while0b_v80 main_while0b_v81 rfl shapeCasts_S20000x1_S20000,
    StableHlo.unary main_v2_1 main_while0b_v82 ((extractStridedSlice S20000x1 ![0, 0] · slices_S20000x4_S20000x1_0_0)),
    StableHlo.reshape main_while0b_v82 main_while0b_v83 rfl shapeCasts_S20000x1_S20000,
    StableHlo.binary main_while0b_v81 main_while0b_v83 main_while0b_v84 (subf),
    StableHlo.unary main_v2_1 main_while0b_v85 ((extractStridedSlice S20000x1 ![0, 3] · slices_S20000x4_S20000x1_0_3)),
    StableHlo.reshape main_while0b_v85 main_while0b_v86 rfl shapeCasts_S20000x1_S20000,
    StableHlo.unary main_v2_1 main_while0b_v87 ((extractStridedSlice S20000x1 ![0, 1] · slices_S20000x4_S20000x1_0_1)),
    StableHlo.reshape main_while0b_v87 main_while0b_v88 rfl shapeCasts_S20000x1_S20000,
    StableHlo.binary main_while0b_v86 main_while0b_v88 main_while0b_v89 (subf),
    StableHlo.binary main_while0b_v84 main_while0b_v89 main_while0b_v90 (mulf),
    StableHlo.unary main_while0b_v79 main_while0b_v91 (broadcastInDim S20000 ![] bcast_S_S20000),
    StableHlo.binary main_while0b_v91 main_while0b_v90 main_while0b_v92 (addf),
    StableHlo.binary main_while0b_v92 main_while0b_v68 main_while0b_v93 (subf),
    StableHlo.nullary main_while0b_cst_23 (constant S_ .f32 0x3089705F#32),
    StableHlo.unary main_while0b_cst_23 main_while0b_v94 (broadcastInDim S20000 ![] bcast_S_S20000),
    StableHlo.binary main_while0b_v93 main_while0b_v94 main_while0b_v95 (addf),
    StableHlo.binary main_while0b_v68 main_while0b_v95 main_while0b_v96 (Host.divf),
    StableHlo.nullary main_while0b_cst_24 (constant S_ .f32 0x3F000000#32),
    StableHlo.unary main_while0b_cst_24 main_while0b_v97 (broadcastInDim S20000 ![] bcast_S_S20000),
    StableHlo.binary main_while0b_v96 main_while0b_v97 main_while0b_v98 (cmpf .ogt) ]

/-- The operations touch main memory only. -/
theorem ops6_sub : (ops6 : List (HloOp τ sig (Elt F))).Forall fun op => op.bufs ⊆ StableHlo.tcRefs τ sig :=
  ⟨reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- A called function's operations, in order. -/
abbrev ops7 : List (HloOp τ sig (Elt F)) :=
  [ StableHlo.unary main_v2_0 main_while0b_call3_v0 (broadcastInDim S20000 ![] bcast_S_S20000),
    StableHlo.ternary main_while0b_v98 main_while0b_call3_v0 main_v2_3 main_while0b_v99 select ]

/-- The operations touch main memory only. -/
theorem ops7_sub : (ops7 : List (HloOp τ sig (Elt F))).Forall fun op => op.bufs ⊆ StableHlo.tcRefs τ sig :=
  ⟨unary_bufs_sub .., ternary_bufs_sub ..⟩

/-- A stretch of the loop body's operations, in order. -/
abbrev ops8 : List (HloOp τ sig (Elt F)) :=
  [ StableHlo.nullary main_while0b_c_25 (constantI S_ 32 0#32),
    StableHlo.binary main_while0b_v24 main_while0b_c_25 main_while0b_v100 (cmpi .slt),
    StableHlo.nullary main_while0b_c_26 (constantI S_ 32 20000#32),
    StableHlo.binary main_while0b_v24 main_while0b_c_26 main_while0b_v101 (addi),
    StableHlo.ternary main_while0b_v100 main_while0b_v101 main_while0b_v24 main_while0b_v102 (select),
    StableHlo.unary main_while0b_v102 main_while0b_v103 (broadcastInDim S1 ![] bcast_S_S1),
    StableHlo.ternary main_while0b_v99 main_while0b_v103 main_v2_0 main_while0b_v104 ((fun x i u => Host.scatter scatter_S20000_S1_S__n_0_0_0 (fun _ b => b) x i u)) ]

/-- The operations touch main memory only. -/
theorem ops8_sub : (ops8 : List (HloOp τ sig (Elt F))).Forall fun op => op.bufs ⊆ StableHlo.tcRefs τ sig :=
  ⟨nullary_bufs_sub .., binary_bufs_sub .., nullary_bufs_sub .., binary_bufs_sub .., ternary_bufs_sub .., unary_bufs_sub .., ternary_bufs_sub ..⟩

/-- A called function's operations, in order. -/
abbrev ops9 : List (HloOp τ sig (Elt F)) :=
  [ StableHlo.unary main_while0b_v24 main_while0b_call4_v0 (broadcastInDim S1 ![] bcast_S_S1),
    StableHlo.TRef.binaryIndexed (.of main_v2_4 : StableHlo.TRef sig ⟨S300, .i32⟩) (.of main_while0b_call4_v0 : StableHlo.TRef sig ⟨S1, .i32⟩) ![(.of main_v2_2 : StableHlo.TRef sig ⟨S_, .i32⟩)] (.of main_while0b_v105 : StableHlo.TRef sig ⟨S300, .i32⟩) (fun x u i => Host.dynamicUpdateSlice x u (fun k => (i k (Shape.Idx.first h_S_)).toInt) updateFits_S300_S1) ]

/-- The operations touch main memory only. -/
theorem ops9_sub : (ops9 : List (HloOp τ sig (Elt F))).Forall fun op => op.bufs ⊆ StableHlo.tcRefs τ sig :=
  ⟨unary_bufs_sub .., binaryIndexed_bufs_sub ..⟩

/-- A called function's operations, in order. -/
abbrev ops10 : List (HloOp τ sig (Elt F)) :=
  [ StableHlo.unary main_while0b_v31 main_while0b_call5_v0 (broadcastInDim S1 ![] bcast_S_S1),
    StableHlo.TRef.binaryIndexed (.of main_v2_5 : StableHlo.TRef sig ⟨S300, .i1⟩) (.of main_while0b_call5_v0 : StableHlo.TRef sig ⟨S1, .i1⟩) ![(.of main_v2_2 : StableHlo.TRef sig ⟨S_, .i32⟩)] (.of main_while0b_v106 : StableHlo.TRef sig ⟨S300, .i1⟩) (fun x u i => Host.dynamicUpdateSlice x u (fun k => (i k (Shape.Idx.first h_S_)).toInt) updateFits_S300_S1) ]

/-- The operations touch main memory only. -/
theorem ops10_sub : (ops10 : List (HloOp τ sig (Elt F))).Forall fun op => op.bufs ⊆ StableHlo.tcRefs τ sig :=
  ⟨unary_bufs_sub .., binaryIndexed_bufs_sub ..⟩

/-- A stretch of the loop body's operations, in order. -/
abbrev ops11 : List (HloOp τ sig (Elt F)) :=
  [ StableHlo.nullary main_while0b_c_27 (constantI S_ 32 1#32),
    StableHlo.binary main_v2_2 main_while0b_c_27 main_while0b_v107 (addi),
    StableHlo.unary main_while0b_v107 main_v2_2 id,
    StableHlo.unary main_while0b_v104 main_v2_3 id,
    StableHlo.unary main_while0b_v105 main_v2_4 id,
    StableHlo.unary main_while0b_v106 main_v2_5 id ]

/-- The operations touch main memory only. -/
theorem ops11_sub : (ops11 : List (HloOp τ sig (Elt F))).Forall fun op => op.bufs ⊆ StableHlo.tcRefs τ sig :=
  ⟨nullary_bufs_sub .., binary_bufs_sub .., unary_bufs_sub .., unary_bufs_sub .., unary_bufs_sub .., unary_bufs_sub ..⟩

/-- The operations after the loop. -/
abbrev postOps : List (HloOp τ sig (Elt F)) :=
  [ StableHlo.unary main_v2_5 main_v3 (uitofp .f32),
    StableHlo.nullary main_c_2 (constantI S_ 32 0#32),
    StableHlo.unary main_c_2 main_v4 (broadcastInDim S300 ![] bcast_S_S300),
    StableHlo.binary main_v2_4 main_v4 main_v5 (cmpi .slt),
    StableHlo.nullary main_c_3 (constantI S_ 32 20000#32),
    StableHlo.unary main_c_3 main_v6 (broadcastInDim S300 ![] bcast_S_S300),
    StableHlo.binary main_v2_4 main_v6 main_v7 (addi),
    StableHlo.ternary main_v5 main_v7 main_v2_4 main_v8 (select),
    StableHlo.unary main_v8 main_v9 (broadcastInDim S300x1 ![0] bcast_S300_S300x1_0),
    StableHlo.binary main_arg0 main_v9 main_v10 ((fun x i => Host.gather gather_S20000x4_S300x1_S300x4_1_0_n_n_0_1_14 x i)),
    StableHlo.unary main_v3 main_v11 (broadcastInDim S300x1 ![0] bcast_S300_S300x1_0),
    StableHlo.unary main_v11 main_v12 (broadcastInDim S300x4 ![0, 1] bcast_S300x1_S300x4_0_1),
    StableHlo.binary main_v10 main_v12 main_v13 (mulf),
    StableHlo.nullary main_c_4 (constantI S_ 32 0#32),
    StableHlo.unary main_c_4 main_v14 (broadcastInDim S300 ![] bcast_S_S300),
    StableHlo.binary main_v2_4 main_v14 main_v15 (cmpi .slt),
    StableHlo.nullary main_c_5 (constantI S_ 32 20000#32),
    StableHlo.unary main_c_5 main_v16 (broadcastInDim S300 ![] bcast_S_S300),
    StableHlo.binary main_v2_4 main_v16 main_v17 (addi),
    StableHlo.ternary main_v15 main_v17 main_v2_4 main_v18 (select),
    StableHlo.unary main_v18 main_v19 (broadcastInDim S300x1 ![0] bcast_S300_S300x1_0),
    StableHlo.binary main_arg1 main_v19 main_v20 ((fun x i => Host.gather gather_S20000_S300x1_S300_n_0_n_n_0_1_1 x i)),
    StableHlo.binary main_v20 main_v3 main_v21 (mulf),
    StableHlo.unary main_v21 main_v22 (broadcastInDim S300x1 ![0] bcast_S300_S300x1_0),
    StableHlo.binary main_v13 main_v22 main_v23 ((fun a b => concatenate S300x5 1 [⟨S300x4, a⟩, ⟨S300x1, b⟩] concatenates_S300x4_S300x1_S300x5_d1)) ]

/-- The operations touch main memory only. -/
theorem postOps_sub : (postOps : List (HloOp τ sig (Elt F))).Forall fun op => op.bufs ⊆ StableHlo.tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub ..⟩

/-- The loop body's stretches, in order. -/
abbrev bodyL : List (List (HloOp τ sig (Elt F))) := [ops0, ops1, ops2, ops3, ops4, ops5, ops6, ops7, ops8, ops9, ops10, ops11]

set_option maxRecDepth 100000 in
/-- The program is its operations around the loop. -/
theorem main_eq (c : Dev nD) : main (F := F) c = Pipeline.chain ((([preOps] : List (List (HloOp τ sig (Elt F)))).map fun ops => (StableHlo.seq ops : Prog (TpuEff nD τ sig (Elt F) (HostLoop.Sig (Pipeline.Sig Λ₀ (Fin 0) fun p => (pcfgs (F := F) p).Adm) 1) .tc) PUnit))
    ++ HostLoop.enter 0 :: ([postOps] : List (List (HloOp τ sig (Elt F)))).map fun ops => (StableHlo.seq ops : Prog (TpuEff nD τ sig (Elt F) (HostLoop.Sig (Pipeline.Sig Λ₀ (Fin 0) fun p => (pcfgs (F := F) p).Adm) 1) .tc) PUnit)) := by
  show _ = Pipeline.chain [StableHlo.seq preOps, HostLoop.enter 0, StableHlo.seq postOps]
  rewrite [StableHlo.chain_seq_cons, Pipeline.chain_cons, StableHlo.chain_seq_cons]
  chain_rfl

set_option maxRecDepth 100000 in
theorem part0_eq : main_while0_body_part0 (F := F) = Pipeline.chain [StableHlo.seq ops0, StableHlo.seq ops1, StableHlo.seq ops2, StableHlo.seq ops3, StableHlo.seq ops4, StableHlo.seq ops5] := by
  rewrite [Pipeline.chain_cons, StableHlo.chain_seq_cons, Pipeline.chain_cons, StableHlo.chain_seq_cons, Pipeline.chain_cons, StableHlo.chain_seq_cons]
  chain_rfl

set_option maxRecDepth 100000 in
theorem part1_eq : main_while0_body_part1 (F := F) = Pipeline.chain [StableHlo.seq ops6, StableHlo.seq ops7, StableHlo.seq ops8, StableHlo.seq ops9, StableHlo.seq ops10, StableHlo.seq ops11] := by
  rewrite [StableHlo.chain_seq_cons, Pipeline.chain_cons, StableHlo.chain_seq_cons, Pipeline.chain_cons, Pipeline.chain_cons, StableHlo.chain_seq_cons]
  chain_rfl

/-- The loop's body is its stretches. -/
theorem body_eq : main_while0_body (F := F) = Pipeline.chain ((bodyL (F := F)).map fun ops => (StableHlo.seq ops : Prog (TpuEff nD τ sig (Elt F) (HostLoop.Sig (Pipeline.Sig Λ₀ (Fin 0) fun p => (pcfgs (F := F) p).Adm) 1) .tc) PUnit)) := by
  unfold main_while0_body
  rw [part0_eq, part1_eq]
  simp only [bodyL, List.map_cons, List.map_nil, Pipeline.chain_cons, Pipeline.chain_nil, bind_assoc, pure_bind]

theorem plain_pre : StableHlo.Plain ([preOps] : List (List (HloOp τ sig (Elt F)))) := .cons preOps_sub .nil
theorem plain_post : StableHlo.Plain ([postOps] : List (List (HloOp τ sig (Elt F)))) := .cons postOps_sub .nil
theorem plain_body : StableHlo.Plain (bodyL (F := F)) :=
  .cons ops0_sub <| .cons ops1_sub <| .cons ops2_sub <| .cons ops3_sub <| .cons ops4_sub <| .cons ops5_sub <| .cons ops6_sub <| .cons ops7_sub <| .cons ops8_sub <| .cons ops9_sub <| .cons ops10_sub <| .cons ops11_sub <| .nil

section
variable (m : (ℓ : Loc nD τ sig) → Buf (Elt F) ℓ) (ρ : Dev nD → PrngReg)

/-- Core `c`'s buffers before the `k`-th run of the loop's condition. -/
abbrev At (k : ℕ) (c : Dev nD) : Valuation τ sig (Elt F) :=
  StableHlo.atTrip condOps bodyL (StableHlo.entryContents [preOps] m) k c

/-- The counter at the loop's entry. -/
theorem ctr_zero (c : Dev nD) : At m 0 c (Proc.devRef .tc main_v2_2) = constantI S_ 32 0#32 := by
  show after (preOps (F := F)) (StableHlo.launchContents m c) (Proc.devRef .tc main_v2_2) = _
  after_reads_simp
  rfl

/-- One trip adds one to the counter. -/
theorem ctr_step (V : Valuation τ sig (Elt F)) :
    StableHlo.afterL (bodyL (F := F)) (after condOps V) (Proc.devRef .tc main_v2_2) = addi (V (Proc.devRef .tc main_v2_2)) (constantI S_ 32 1#32) := by
  simp only [bodyL, StableHlo.afterL_cons, StableHlo.afterL_nil]
  after_reads_simp
  rfl

/-- The counter before the `k`-th run of the condition. -/
theorem ctr (c : Dev nD) : ∀ k, At m k c (Proc.devRef .tc main_v2_2) = fun _ => Scf.iv 0#32 1#32 k
  | 0 => (ctr_zero m c).trans (by rw [Scf.iv_zero]; rfl)
  | k + 1 => by
    show StableHlo.afterL bodyL (after condOps (At m k c)) _ = _
    rw [ctr_step, ctr c k, Scf.iv_succ]
    rfl

set_option backward.isDefEq.respectTransparency.types false in
/-- The condition run for the `k`-th time returns one exactly when `k < 300`. -/
theorem cond_spec : StableHlo.CondSpec pcfgs defs₀ loops (main_while0_cond (F := F)) condOps bodyL (StableHlo.entryContents [preOps] m) 300 := fun k hk c bd => by
  have hctr := ctr m c k
  unfold main_while0_cond
  simp only [bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (At m k c) main_v2_2 HostLoop.idx0)
        (HloOp.result _ (At m k c) main_while0c_c_11 HostLoop.idx0) = 1#1) (k < 300)
    rw [StableHlo.nullary_result_ne _ _ _ _ (by decide), StableHlo.nullary_result, hctr]
    exact Scf.cmpi_slt_iv_ub_iff main_while0_ok hk
  isplitl [Hb]; · iexact Hb
  rw [StableHlo.after_cons, StableHlo.after_cons, StableHlo.after_nil]; iexact Hh

/-- The reference runs, and every buffer ends at what the lists of operations make of the launch contents. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = after postOps (after condOps (At m 300 c)) (Proc.devRef .tc b)) :=
  StableHlo.run_loop pcfgs defs₀ loops main 0 main_while0_cond main_while0_body rfl [preOps] bodyL [postOps] condOps
    plain_pre plain_body plain_post main_eq body_eq 300 m ρ (cond_spec m)

end
end Cert.Proof.Ref
end
-- ==== Proof.RefFrame.lean ====
/- The reference leaves its arguments as they were, and ends with every counter at zero. -/
module

public import proofs.«01_k».proof.Proof.RefRun

@[expose] public section

noncomputable section

namespace Cert.Proof.Ref

open Cert.ReferenceIdeal Cert.ReferenceIdeal.Gen
open Idealize.ShloMosaic Idealize.ShloMosaic.TcCoe Idealize.ShloMosaic.Tactic Idealize.SL.Sem
open Idealize.ShloMosaic.StableHlo (after)

variable {F : FTy → Type} [FloatOps F]

/-- One trip leaves the boxes. -/
theorem trip_arg0 (V : Valuation τ sig (Elt F)) :
    StableHlo.afterL (bodyL (F := F)) (after condOps V) (Proc.devRef .tc main_arg0) = V (Proc.devRef .tc main_arg0) := by
  simp only [bodyL, StableHlo.afterL_cons, StableHlo.afterL_nil]
  after_reads_simp

/-- One trip leaves the scores. -/
theorem trip_arg1 (V : Valuation τ sig (Elt F)) :
    StableHlo.afterL (bodyL (F := F)) (after condOps V) (Proc.devRef .tc main_arg1) = V (Proc.devRef .tc main_arg1) := by
  simp only [bodyL, StableHlo.afterL_cons, StableHlo.afterL_nil]
  after_reads_simp

section
variable (m : (ℓ : Loc nD τ sig) → Buf (Elt F) ℓ) (ρ : Dev nD → PrngReg)

/-- The boxes before every trip are the launch's. -/
theorem At_arg0 (c : Dev nD) : ∀ k, At m k c (Proc.devRef .tc main_arg0) = m ((c.tc : Thread nD τ).loc main_arg0)
  | 0 => by
    show after (preOps (F := F)) (StableHlo.launchContents m c) (Proc.devRef .tc main_arg0) = _
    after_reads_simp
  | k + 1 => (trip_arg0 (At m k c)).trans (At_arg0 c k)

/-- The scores before every trip are the launch's. -/
theorem At_arg1 (c : Dev nD) : ∀ k, At m k c (Proc.devRef .tc main_arg1) = m ((c.tc : Thread nD τ).loc main_arg1)
  | 0 => by
    show after (preOps (F := F)) (StableHlo.launchContents m c) (Proc.devRef .tc main_arg1) = _
    after_reads_simp
  | k + 1 => (trip_arg1 (At m k c)).trans (At_arg1 c k)

/-- The operations after the loop leave the boxes. -/
theorem post_arg0 (V : Valuation τ sig (Elt F)) : after postOps (after condOps V) (Proc.devRef .tc main_arg0) = V (Proc.devRef .tc main_arg0) := by
  after_reads_simp

/-- The operations after the loop leave the scores. -/
theorem post_arg1 (V : Valuation τ sig (Elt F)) : after postOps (after condOps V) (Proc.devRef .tc main_arg1) = V (Proc.devRef .tc main_arg1) := by
  after_reads_simp

/-- The reference runs, leaves its arguments, and ends with every counter at zero. -/
theorem quiet :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := F)) _ _).mono (fun r h => ⟨fun c => ⟨
      ((h c main_arg0 (by decide)).trans (post_arg0 _)).trans (At_arg0 m c 300),
      ((h c main_arg1 (by decide)).trans (post_arg1 _)).trans (At_arg1 m c 300)⟩, sem_eq_zero_of_no_sems (by decide) r.2⟩) (run m ρ)

end
end Cert.Proof.Ref
end
-- ==== Proof.Consts.lean ====
/- The values of the constants of the kernel and the reference, as extended reals. -/
module

public import Idealize.ShloMosaic.PureOps.Ideal.Laws
public import Idealize.ShloMosaic.Lib.IdealHost

@[expose] public section

noncomputable section

namespace Cert.Proof.Consts

open Idealize.ShloMosaic

/-- The fill value, about -1e30. -/
def N : EReal := Ideal.ofBits .f32 0xF149F2CA#32
/-- Half the fill value: scores above it are live. -/
def Bar : EReal := Ideal.ofBits .f32 0xF0C9F2CA#32
/-- The term of the intersection over union's denominator, about 1e-9. -/
def eps : EReal := Ideal.ofBits .f32 0x3089705F#32

/-- The fill value as a real. -/
theorem N_eq : N = ((-(13234890 * 2 ^ 76) : ℝ) : EReal) := by
  simp [N, Ideal.ofBits, Ideal.ieee]
/-- Half the fill value as a real. -/
theorem Bar_eq : Bar = ((-(13234890 * 2 ^ 75) : ℝ) : EReal) := by
  simp [Bar, Ideal.ofBits, Ideal.ieee]
/-- The small term as a real. -/
theorem eps_eq : eps = ((9007199 * (2 ^ 53)⁻¹ : ℝ) : EReal) := by
  simp [eps, Ideal.ofBits, Ideal.ieee]
/-- The constant one half. -/
theorem half_eq : Ideal.ofBits .f32 0x3F000000#32 = ((1 / 2 : ℝ) : EReal) := by
  simp [Ideal.ofBits, Ideal.ieee, -EReal.coe_mul]; norm_num
/-- The constant one and a half. -/
theorem threeHalves_eq : Ideal.ofBits .f32 0x3FC00000#32 = ((3 / 2 : ℝ) : EReal) := by
  simp [Ideal.ofBits, Ideal.ieee, -EReal.coe_mul]; norm_num
/-- The constant 1e9. -/
theorem big_eq : Ideal.ofBits .f32 0x4E6E6B28#32 = ((1000000000 : ℝ) : EReal) := by
  simp [Ideal.ofBits, Ideal.ieee]; norm_cast
/-- The constant plus infinity. -/
theorem top_eq : Ideal.ofBits .f32 0x7F800000#32 = ⊤ := by
  simp [Ideal.ofBits, Ideal.ieee]
/-- The constant minus infinity. -/
theorem bot_eq : Ideal.ofBits .f32 0xFF800000#32 = ⊥ := by
  simp [Ideal.ofBits, Ideal.ieee]

/-- The fill value is not live. -/
theorem N_le_Bar : N ≤ Bar := by
  rw [N_eq, Bar_eq, EReal.coe_le_coe_iff]; norm_num
/-- Half the fill value, as the reference computes it. -/
theorem N_mul_half : N * Ideal.ofBits .f32 0x3F000000#32 = Bar := by
  rw [N_eq, Bar_eq, half_eq, ← EReal.coe_mul]; norm_num
/-- The fill value is negative. -/
theorem N_le_zero : N ≤ 0 := by
  rw [N_eq, ← EReal.coe_zero, EReal.coe_le_coe_iff]; norm_num
/-- The term is positive. -/
theorem eps_pos : 0 < eps := by
  rw [eps_eq, ← EReal.coe_zero, EReal.coe_lt_coe_iff]; norm_num

end Cert.Proof.Consts
end
-- ==== Proof.Select.lean ====
/- Greedy selection over a finite set of scored places, away from any program: what one step is, what the two steps of
   a trip of the kernel are when it takes the picks that it guessed, and how the steps over a set and over a larger set
   are related. -/
module

public import Mathlib.Order.Basic
public import Mathlib.Order.Lattice
public import Mathlib.Data.Fin.Basic

@[expose] public section

namespace Cert.Proof.Select

variable {ι κ α : Type} [LinearOrder α]

/-- `p` is the pick on the live scores `L`: it holds the greatest score, and no place of a smaller number does. -/
structure IsPick (num : ι → ℕ) (L : ι → α) (p : ι) : Prop where
  le : ∀ q, L q ≤ L p
  first : ∀ q, num q < num p → L q ≠ L p

/-- Live scores `L'` are `L` with the places that `p` marks set to `N`. -/
structure Fills (N : α) (mark : ι → Prop) (L L' : ι → α) : Prop where
  hit : ∀ q, mark q → L' q = N
  miss : ∀ q, ¬ mark q → L' q = L q

/-- One step of the selection: the pick has a live score, above `T`, and the places that it overlaps are filled; or no score is
    live before the step nor after it. -/
def Step (num : ι → ℕ) (T N : α) (over : ι → ι → Prop) (L L' : ι → α) : Option ι → Prop
  | some p => IsPick num L p ∧ T < L p ∧ Fills N (over p) L L'
  | none => (∀ q, L q ≤ T) ∧ ∀ q, L' q ≤ T

/-- There is one pick. -/
theorem IsPick.unique {num : ι → ℕ} (hnum : Function.Injective num) {L : ι → α} {p q : ι} (hp : IsPick num L p) (hq : IsPick num L q) :
    p = q := by
  have e : L p = L q := le_antisymm (hq.le p) (hp.le q)
  rcases lt_trichotomy (num p) (num q) with h | h | h
  · exact absurd e (hq.first p h)
  · exact hnum h
  · exact absurd e.symm (hp.first q h)

/-- A step never raises a score above `T`. -/
theorem Fills.live {N T : α} (hN : N ≤ T) {mark : ι → Prop} {L L' : ι → α} (h : Fills N mark L L') {q : ι} (hq : T < L' q) :
    ¬ mark q ∧ L' q = L q := by
  by_cases hm : mark q
  · rw [h.hit q hm] at hq; exact absurd hq (not_lt.2 hN)
  · exact ⟨hm, h.miss q hm⟩

/-- Scores none of which is live stay so. -/
theorem Fills.dead {N T : α} (hN : N ≤ T) {mark : ι → Prop} {L L' : ι → α} (h : Fills N mark L L') (hd : ∀ q, L q ≤ T) (q : ι) :
    L' q ≤ T := by
  by_contra hq
  have := h.live hN (not_le.1 hq)
  rw [this.2] at hq
  exact hq (hd q)

/-- A pick and the fill of what it overlaps are a step. -/
theorem step_of_pick {num : ι → ℕ} {T N : α} (hN : N ≤ T) {over : ι → ι → Prop} {L L' : ι → α} {p : ι} (hp : IsPick num L p)
    (hf : Fills N (over p) L L') : Step num T N over L L' (if T < L p then some p else none) := by
  split
  · next h => exact ⟨hp, h, hf⟩
  · next h => exact ⟨fun q => (hp.le q).trans (not_lt.1 h), hf.dead hN fun q => (hp.le q).trans (not_lt.1 h)⟩

/-- What a trip knows of the live scores: the pick, that it alone holds the greatest score, and bounds on the scores
    that are not the greatest, and on those that are neither the greatest nor that bound. -/
structure Known (num : ι → ℕ) (L : ι → α) (p : ι) (force : Prop) (a b : α) : Prop where
  pick : IsPick num L p
  alone : ¬ force → ∀ q, L q = L p → q = p
  second : ∀ q, L q ≠ L p → L q ≤ a
  third : ∀ q, L q ≠ L p → L q ≠ a → L q ≤ b

/-- The guessed picks `A`, `B` are the picks of the two next steps, and the next trip's bounds hold. -/
theorem Known.two {num : ι → ℕ} {T N : α} (hN : N ≤ T) {over : ι → ι → Prop} {L L1 L2 X Y : ι → α} {p A B : ι} {force : Prop} {a' b' : α}
    (h : Known num L p force (L A) (L B)) (hself : ∀ q, T < L q → over q q) (hforce : ¬ force)
    (hA : ∀ q, L q = L A → q = A) (hB : ∀ q, L q = L B → q = B) (hAT : T < L A) (hBT : T < L B)
    (hpA : ¬ over p A) (hpB : ¬ over p B) (hAB : ¬ over A B)
    (h1 : Fills N (over p) L L1) (h2 : Fills N (over A) L1 L2)
    (hX : Fills N (fun q => L q = L p ∨ L q = L A ∨ L q = L B) L X) (hY : Fills N (fun q => X q = a') X Y)
    (ha' : ∀ q, X q ≤ a') (hb' : ∀ q, Y q ≤ b') :
    T < L p ∧ IsPick num L1 A ∧ L1 A = L A ∧ L2 B = L B ∧ Known num L2 B False a' b' := by
  have hTp : T < L p := hAT.trans_le (h.pick.le A)
  have hNA : N < L A := hN.trans_lt hAT
  have hNB : N < L B := hN.trans_lt hBT
  have hpp : ∀ q, L q = L p → over p q := fun q hq => by rw [h.alone hforce q hq]; exact hself p hTp
  have hAA : ∀ q, L q = L A → over A q := fun q hq => by rw [hA q hq]; exact hself A hAT
  have e1A : L1 A = L A := h1.miss A hpA
  have e1B : L1 B = L B := h1.miss B hpB
  have e2B : L2 B = L B := (h2.miss B hAB).trans e1B
  have le1 : ∀ q, L1 q ≤ L A := fun q => by
    by_cases hm : over p q
    · rw [h1.hit q hm]; exact hNA.le
    · rw [h1.miss q hm]; exact h.second q fun e => hm (hpp q e)
  have c2 : ∀ q, L2 q = N ∨ (L2 q = L q ∧ L q ≠ L p ∧ L q ≠ L A) := fun q => by
    by_cases hm : over A q
    · exact .inl (h2.hit q hm)
    · rw [h2.miss q hm]
      by_cases hm' : over p q
      · exact .inl (h1.hit q hm')
      · exact .inr ⟨h1.miss q hm', fun e => hm' (hpp q e), fun e => hm (hAA q e)⟩
  have le2 : ∀ q, L2 q ≤ L B := fun q => by
    rcases c2 q with e | ⟨e, hp, ha⟩
    · rw [e]; exact hNB.le
    · rw [e]; exact h.third q hp ha
  have u2 : ∀ q, L2 q = L B → q = B := fun q e => by
    rcases c2 q with e' | ⟨e', -, -⟩
    · exact absurd (e'.symm.trans e) hNB.ne
    · exact hB q (e'.symm.trans e)
  have Xp : X p = N := hX.hit p (.inl rfl)
  have XN : N ≤ a' := Xp ▸ ha' p
  have YN : N ≤ b' := by
    have : Y p = N := by
      by_cases e : X p = a'
      · exact hY.hit p e
      · exact (hY.miss p e).trans Xp
    exact this ▸ hb' p
  refine ⟨hTp, ⟨fun q => e1A ▸ le1 q, fun q hq e => ?_⟩, e1A, e2B, ⟨⟨fun q => e2B ▸ le2 q, fun q hq e => ?_⟩, fun _ q e => u2 q (e.trans e2B), fun q hq => ?_, fun q hq hq' => ?_⟩⟩
  · have hnm : ¬ over p q := fun hm => by
      rw [h1.hit q hm, e1A] at e; exact hNA.ne e
    rw [h1.miss q hnm, e1A] at e
    rw [hA q e] at hq; exact lt_irrefl _ hq
  · rw [u2 q (e.trans e2B)] at hq; exact lt_irrefl _ hq
  · rcases c2 q with e | ⟨e, hp, ha⟩
    · rw [e]; exact XN
    · rw [e]; rw [e, e2B] at hq
      rw [← hX.miss q (by rintro (h | h | h) <;> contradiction)]; exact ha' q
  · rcases c2 q with e | ⟨e, hp, ha⟩
    · rw [e]; exact YN
    · rw [e]; rw [e, e2B] at hq; rw [e] at hq'
      have hXq : X q = L q := hX.miss q (by rintro (h | h | h) <;> contradiction)
      rw [← hXq, ← hY.miss q (by rwa [hXq])]; exact hb' q

/-- The live scores of a larger set and of the set it holds agree: they are equal, and none outside is live; or none of either
    is. -/
def Agree (e : κ → ι) (T : α) (L : ι → α) (M : κ → α) : Prop :=
  ((∀ n, L (e n) = M n) ∧ ∀ q, (∀ n, e n ≠ q) → L q ≤ T) ∨ (∀ q, L q ≤ T) ∧ ∀ n, M n ≤ T

/-- Steps on live scores that agree make the same choice, and leave live scores that agree. -/
theorem Agree.step {num : ι → ℕ} {num' : κ → ℕ} (hnum : Function.Injective num) {e : κ → ι} (he : ∀ n, num (e n) = num' n) {T N : α} (hN : N ≤ T)
    {over : ι → ι → Prop} {over' : κ → κ → Prop} (hover : ∀ n k, over (e n) (e k) ↔ over' n k) {L L' : ι → α} {M M' : κ → α} {o : Option ι} {o' : Option κ}
    (h : Agree e T L M) (hs : Step num T N over L L' o) (hs' : Step num' T N over' M M' o') :
    o = o'.map e ∧ Agree e T L' M' := by
  rcases h with ⟨hin, hout⟩ | ⟨hL, hM⟩
  · cases o with
    | none =>
      cases o' with
      | none => exact ⟨rfl, .inr ⟨hs.2, hs'.2⟩⟩
      | some k => exact absurd (hs.1 (e k)) (by rw [hin k]; exact not_le.2 hs'.2.1)
    | some p =>
      obtain ⟨hp, hT, hf⟩ := hs
      obtain ⟨n, rfl⟩ : ∃ n, e n = p := by
        by_contra hno
        exact absurd (hout p fun n hn => hno ⟨n, hn⟩) (not_le.2 hT)
      cases o' with
      | none => exact absurd (hs'.1 n) (by rw [← hin n]; exact not_le.2 hT)
      | some k =>
        obtain ⟨hk, -, hf'⟩ := hs'
        have hn : IsPick num' M n := ⟨fun k => by rw [← hin, ← hin]; exact hp.le _, fun k hk => by
          rw [← hin, ← hin]; exact hp.first _ (by rwa [he, he])⟩
        have hkn : e k = e n := by
          have e1 : M k = M n := le_antisymm (hn.le k) (hk.le n)
          rcases lt_trichotomy (num' k) (num' n) with h | h | h
          · exact absurd e1 (hn.first k h)
          · exact hnum (by rw [he, he, h])
          · exact absurd e1.symm (hk.first n h)
        refine ⟨by rw [Option.map_some, hkn], .inl ⟨fun j => ?_, fun q hq => ?_⟩⟩
        · by_cases hm : over' k j
          · rw [hf'.hit j hm, hf.hit (e j) (hkn ▸ (hover k j).2 hm)]
          · rw [hf'.miss j hm, hf.miss (e j) (fun hm' => hm ((hover k j).1 (hkn ▸ hm'))), hin]
        · by_cases hm : over (e n) q
          · rw [hf.hit q hm]; exact hN
          · rw [hf.miss q hm]; exact hout q hq
  · cases o with
    | some p => exact absurd (hL p) (not_le.2 hs.2.1)
    | none =>
      cases o' with
      | some k => exact absurd (hM k) (not_le.2 hs'.2.1)
      | none => exact ⟨rfl, .inr ⟨hs.2, hs'.2⟩⟩

end Cert.Proof.Select
end
-- ==== Proof.Planes.lean ====
/- The kernel's operations on a plane, read at the extended reals: the greatest and the least element, a count, and the
   element that a mask of one place picks out. -/
module

public import proofs.«01_k».proof.Proof.Steps
public import proofs.«01_k».proof.Proof.Consts
public import proofs.«01_k».proof.Proof.Select
public import Idealize.ShloMosaic.PureOps.Ideal.Laws
public import Idealize.ShloMosaic.Lib.Pipeline.Value

@[expose] public section

noncomputable section

namespace Cert.Proof.Nms

open Cert.KernelIdeal Cert.KernelIdeal.Gen
open Idealize.ShloMosaic
open Cert.Proof.Consts

/-- A place of a plane. -/
abbrev Place : Type := S160x128.Idx

instance : Nonempty Place := ⟨fun a => ⟨0, by revert a; decide⟩⟩

/-- A mask's place is marked. -/
abbrev On (mk : IVec S160x128 1) (q : Place) : Prop := mk q = 1#1

/-- A disjunction of bits. -/
theorem or_eq_one {a b : BitVec 1} : a ||| b = 1#1 ↔ a = 1#1 ∨ b = 1#1 := by revert a b; decide

/-- A conjunction of bits. -/
theorem and_eq_one {a b : BitVec 1} : a &&& b = 1#1 ↔ a = 1#1 ∧ b = 1#1 := by revert a b; decide

/-- The identity reshape is the identity. -/
theorem same_self (x : Plane Ideal) : same x = x := shapeCast_self x _

private theorem drops {i : S1x160x128.Idx} (j : S1.Idx) : reduces_S1x160x128_S1.drop i = j :=
  funext fun b => Fin.ext (by
    have := (reduces_S1x160x128_S1.drop i b).isLt; have := (j b).isLt
    have h : ∀ b, S1.size b = 1 := by decide
    have := h b
    omega)

/-- The greatest element is the supremum. -/
theorem redMax_eq (x : Plane Ideal) : redMax x = Finset.univ.sup fun i : S1x160x128.Idx => x (Shape.reshapeEquiv shapeCasts_S160x128_S1x160x128 i) := by
  refine (multiReduction_maximumf_eq_fold (φ := .f32) _ 0xFF800000#32 _ (.inl rfl) rfl _).trans ?_
  rw [Finset.filter_true_of_mem fun i _ => drops _]
  show Finset.fold max (Ideal.ofBits .f32 0xFF800000#32) _ _ = _
  rw [bot_eq]; rfl

/-- The least element is the infimum. -/
theorem redMin_eq (x : Plane Ideal) : redMin x = Finset.univ.inf fun i : S1x160x128.Idx => x (Shape.reshapeEquiv shapeCasts_S160x128_S1x160x128 i) := by
  refine (multiReduction_minimumf_eq_fold (φ := .f32) _ 0x7F800000#32 _ (.inl rfl) rfl _).trans ?_
  rw [Finset.filter_true_of_mem fun i _ => drops _]
  show Finset.fold min (Ideal.ofBits .f32 0x7F800000#32) _ _ = _
  rw [top_eq]; rfl

/-- The sum is over every place. -/
theorem redSum_eq (x : Plane Ideal) : redSum x = ∑ q : Place, (x q : EReal) := by
  refine (Ideal.multiReduction_add_total (φ := .f32) _ 0x00000000#32 _ (by decide) (.inl rfl) rfl _).trans ?_
  exact Equiv.sum_comp (Shape.reshapeEquiv shapeCasts_S160x128_S1x160x128) fun q => (x q : EReal)

/-- No element is above the greatest. -/
theorem le_redMax (x : Plane Ideal) (q : Place) : x q ≤ redMax x := by
  rw [redMax_eq]
  obtain ⟨i, rfl⟩ := (Shape.reshapeEquiv shapeCasts_S160x128_S1x160x128).surjective q
  exact Finset.le_sup (f := fun i => (x (Shape.reshapeEquiv shapeCasts_S160x128_S1x160x128 i) : EReal)) (Finset.mem_univ i)

/-- The greatest element is an element. -/
theorem exists_redMax (x : Plane Ideal) : ∃ q, x q = redMax x := by
  rw [redMax_eq]
  have : Nonempty S1x160x128.Idx := ⟨(Shape.reshapeEquiv shapeCasts_S160x128_S1x160x128).symm (Classical.arbitrary Place)⟩
  obtain ⟨i, -, h⟩ := Finset.exists_mem_eq_sup _ Finset.univ_nonempty fun i : S1x160x128.Idx => (x (Shape.reshapeEquiv shapeCasts_S160x128_S1x160x128 i) : EReal)
  exact ⟨_, h.symm⟩

/-- No element is below the least. -/
theorem redMin_le (x : Plane Ideal) (q : Place) : redMin x ≤ x q := by
  rw [redMin_eq]
  obtain ⟨i, rfl⟩ := (Shape.reshapeEquiv shapeCasts_S160x128_S1x160x128).surjective q
  exact Finset.inf_le (f := fun i => (x (Shape.reshapeEquiv shapeCasts_S160x128_S1x160x128 i) : EReal)) (Finset.mem_univ i)

/-- The least element is an element. -/
theorem exists_redMin (x : Plane Ideal) : ∃ q, x q = redMin x := by
  rw [redMin_eq]
  have : Nonempty S1x160x128.Idx := ⟨(Shape.reshapeEquiv shapeCasts_S160x128_S1x160x128).symm (Classical.arbitrary Place)⟩
  obtain ⟨i, -, h⟩ := Finset.exists_mem_eq_inf _ Finset.univ_nonempty fun i : S1x160x128.Idx => (x (Shape.reshapeEquiv shapeCasts_S160x128_S1x160x128 i) : EReal)
  exact ⟨_, h.symm⟩

/-- What `isEq` marks. -/
theorem on_isEq {x : Plane Ideal} {v : EReal} {q : Place} : On (isEq x v) q ↔ x q = v := by
  show BitVec.ofBool (decide ((x q : EReal) = v)) = 1#1 ↔ _
  by_cases h : (x q : EReal) = v <;> simp [h]

/-- What `fillAt` leaves. -/
theorem fillAt_fills (mk : IVec S160x128 1) (x : Plane Ideal) : Select.Fills (α := EReal) N (On mk) x (fillAt mk x) where
  hit q h := if_pos h
  miss q h := if_neg h

/-- A finite sum of reals as an extended real. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- How many places are marked. -/
theorem cnt_eq (mk : IVec S160x128 1) : cnt (F := Ideal) mk = (((Finset.univ.filter fun q => On mk q).card : ℝ) : EReal) := by
  refine (redSum_eq _).trans ?_
  have h : ∀ q : Place, (if mk q = 1#1 then Ideal.ofBits .f32 0x3F800000#32 else Ideal.ofBits .f32 0x00000000#32)
      = ((if On mk q then 1 else 0 : ℝ) : EReal) := fun q => by
    rw [Ideal.ofBits_one_f32, Ideal.ofBits_zero_f32]
    split <;> rfl
  refine (Finset.sum_congr rfl fun q _ => h q).trans ?_
  rw [← coe_sum, Finset.sum_boole]

/-- One place is marked when the count is neither below a half nor above one and a half. -/
theorem one_of_notOne {mk : IVec S160x128 1} (h : notOne (cnt (F := Ideal) mk) ≠ 1#1) : ∃ q, On mk q ∧ ∀ q', On mk q' → q' = q := by
  have h' : ¬ ((cnt (F := Ideal) mk : EReal) < Ideal.ofBits .f32 0x3F000000#32 ∨ Ideal.ofBits .f32 0x3FC00000#32 < cnt (F := Ideal) mk) := fun hor => h <| by
    show BitVec.ofBool (decide ((cnt (F := Ideal) mk : EReal) < Ideal.ofBits .f32 0x3F000000#32)) ||| BitVec.ofBool (decide (Ideal.ofBits .f32 0x3FC00000#32 < (cnt (F := Ideal) mk : EReal))) = 1#1
    refine or_eq_one.2 (hor.imp (fun hl => ?_) fun hr => ?_)
    · rw [decide_eq_true hl]; rfl
    · rw [decide_eq_true hr]; rfl
  rw [cnt_eq, half_eq, threeHalves_eq, EReal.coe_lt_coe_iff, EReal.coe_lt_coe_iff, not_or, not_lt, not_lt] at h'
  have h1 : (Finset.univ.filter fun q => On mk q).card = 1 := by
    have a : (0 : ℝ) < ((Finset.univ.filter fun q => On mk q).card : ℝ) := lt_of_lt_of_le (by norm_num) h'.1
    have b : ((Finset.univ.filter fun q => On mk q).card : ℝ) < 2 := lt_of_le_of_lt h'.2 (by norm_num)
    have a' : 0 < (Finset.univ.filter fun q => On mk q).card := by exact_mod_cast a
    have b' : (Finset.univ.filter fun q => On mk q).card < 2 := by exact_mod_cast b
    omega
  obtain ⟨q, hq⟩ := Finset.card_eq_one.1 h1
  have hm : ∀ q', On mk q' ↔ q' = q := fun q' => by
    have := Finset.ext_iff.1 hq q'
    simpa using this
  exact ⟨q, (hm q).2 rfl, fun q' h => (hm q').1 h⟩

/-- At most one place is marked when the count is not above one and a half. -/
theorem most_one {mk : IVec S160x128 1} (h : Scalar.cmpf (F := Ideal) .ogt (cnt (F := Ideal) mk) (Scalar.ofBits .f32 0x3FC00000#32) ≠ 1#1) {q q' : Place}
    (hq : On mk q) (hq' : On mk q') : q = q' := by
  have h' : ¬ (Ideal.ofBits .f32 0x3FC00000#32 < (cnt (F := Ideal) mk : EReal)) := fun hlt => h <| by
    show BitVec.ofBool (decide (Ideal.ofBits .f32 0x3FC00000#32 < (cnt (F := Ideal) mk : EReal))) = 1#1
    rw [decide_eq_true hlt]; rfl
  rw [cnt_eq, threeHalves_eq, EReal.coe_lt_coe_iff, not_lt] at h'
  have b : ((Finset.univ.filter fun q => On mk q).card : ℝ) < 2 := lt_of_le_of_lt h' (by norm_num)
  have b' : (Finset.univ.filter fun q => On mk q).card < 2 := by exact_mod_cast b
  exact (Finset.card_le_one (s := Finset.univ.filter fun q => On mk q)).1 (by omega) q (by simpa using hq) q' (by simpa using hq')

/-- The greatest marked element, when one place is marked and its element is not below the fill value. -/
theorem maxOn_eq {mk : IVec S160x128 1} {x : Plane Ideal} {p : Place} (hp : On mk p) (hu : ∀ q, On mk q → q = p) (hx : N ≤ x p) :
    maxOn mk x = x p := by
  unfold maxOn
  rw [same_self]
  refine le_antisymm ?_ ?_
  · obtain ⟨q, hq⟩ := exists_redMax (select mk x (broadcast S160x128 fill))
    rw [← hq]
    show (if mk q = 1 then x q else N) ≤ _
    split
    · next h => rw [hu q h]
    · exact hx
  · have := le_redMax (select mk x (broadcast S160x128 fill)) p
    rwa [show select mk x (broadcast S160x128 fill) p = x p from if_pos hp] at this

end Cert.Proof.Nms
end
-- ==== Proof.KerStep.lean ====
/- A trip of the kernel at the extended reals is two steps of the selection. -/
module

public import proofs.«01_k».proof.Proof.Planes

@[expose] public section

noncomputable section

namespace Cert.Proof.Nms

open Cert.KernelIdeal Cert.KernelIdeal.Gen
open Idealize.ShloMosaic
open Cert.Proof.Consts Cert.Proof.Select

/-- The number of a place, in row-major order. -/
def num (q : Place) : ℕ := 128 * (q 0).val + (q 1).val

theorem num_lt (q : Place) : num q < 20480 := by
  have h0 : (q 0).val < 160 := (q 0).isLt
  have h1 : (q 1).val < 128 := (q 1).isLt
  unfold num; omega

/-- Two places have two numbers. -/
theorem num_injective : Function.Injective num := fun p q h => by
  have h1 : (p 1).val < 128 := (p 1).isLt
  have h1' : (q 1).val < 128 := (q 1).isLt
  unfold num at h
  have e0 : (p 0).val = (q 0).val := by omega
  have e1 : (p 1).val = (q 1).val := by omega
  funext a
  match a with
  | ⟨0, _⟩ => exact Fin.ext e0
  | ⟨1, _⟩ => exact Fin.ext e1

/-- The plane of numbers holds each place's number. -/
theorem numbers_eq (q : Place) : (numbers (F := Ideal) q : EReal) = ((num q : ℝ) : EReal) := by
  have h0 : (q 0).val < 160 := (q 0).isLt
  have h1 : (q 1).val < 128 := (q 1).isLt
  have hi : (BitVec.ofNat 32 (q 0).val * 128#32 + BitVec.ofNat 32 (q 1).val).toInt = (num q : ℤ) := by
    have hn : (BitVec.ofNat 32 (q 0).val * 128#32 + BitVec.ofNat 32 (q 1).val).toNat = num q := by
      simp only [BitVec.toNat_add, BitVec.toNat_mul, BitVec.toNat_ofNat, num]; omega
    have := num_lt q
    rw [BitVec.toInt_eq_toNat_of_lt (by rw [hn]; omega), hn]
  have e : numbers (F := Ideal) = sitofp .f32 (addi (muli (iota .tc S160x128 32 [0] iota_S160x128_d0_w32) (broadcast S160x128 128#32)) (iota .tc S160x128 32 [1] iota_S160x128_d1_w32)) := by
    unfold numbers k0_pay87
    simp only [shapeCast_self]
  rw [e]
  show (((BitVec.ofNat 32 (0 * 160 + (q 0).val) * 128#32 + BitVec.ofNat 32 (0 * 128 + (q 1).val)).toInt : ℝ) : EReal) = _
  rw [Nat.zero_mul, Nat.zero_add, Nat.zero_add, hi]
  norm_cast

/-- The exact pick's mask marks one place, the pick. -/
theorem firstMask_pick (L : Plane Ideal) :
    ∃ p, IsPick (α := EReal) num L p ∧ redMax L = L p ∧ On (firstMask numbers L (redMax L)) p
      ∧ ∀ q, On (firstMask numbers L (redMax L)) q → q = p := by
  obtain ⟨p₀, h₀⟩ := exists_redMax L
  set x : Plane Ideal := select (isEq L (redMax L)) numbers (broadcast S160x128 (Scalar.ofBits .f32 0x4E6E6B28#32)) with hx
  have xon : ∀ q, L q = redMax L → x q = ((num q : ℝ) : EReal) := fun q hq =>
    (if_pos (on_isEq.2 hq)).trans (numbers_eq q)
  have xoff : ∀ q, L q ≠ redMax L → x q = ((1000000000 : ℝ) : EReal) := fun q hq =>
    (if_neg fun h => hq (on_isEq.1 h)).trans big_eq
  obtain ⟨p, hp⟩ := exists_redMin x
  have lt : (redMin x : EReal) < ((1000000000 : ℝ) : EReal) := by
    refine (redMin_le x p₀).trans_lt ?_
    rw [xon p₀ h₀, EReal.coe_lt_coe_iff]
    have := num_lt p₀
    exact_mod_cast (by omega : num p₀ < 1000000000)
  have hLp : L p = redMax L := by
    by_contra hne
    rw [← hp, xoff p hne] at lt
    exact lt_irrefl _ lt
  have hmin : (redMin x : EReal) = ((num p : ℝ) : EReal) := hp.symm.trans (xon p hLp)
  have on : ∀ q, On (firstMask numbers L (redMax L)) q ↔ L q = redMax L ∧ num q = num p := fun q => by
    have h1 : On (firstMask numbers L (redMax L)) q ↔ On (isEq L (redMax L)) q ∧ On (isEq numbers (redMin x)) q := by
      exact and_eq_one
    rw [h1, on_isEq, on_isEq, hmin]
    refine and_congr_right fun _ => ?_
    rw [numbers_eq q, EReal.coe_eq_coe_iff]; exact Nat.cast_inj
  refine ⟨p, ⟨fun q => hLp ▸ le_redMax L q, fun q hq e => ?_⟩, hLp.symm, (on p).2 ⟨hLp, rfl⟩, fun q hq => num_injective ((on q).1 hq).2⟩
  have := redMin_le x q
  rw [hmin, xon q (e.trans hLp), EReal.coe_le_coe_iff] at this
  exact absurd (by exact_mod_cast this : num p ≤ num q) (by omega)

section
variable (X0 X1 X2 X3 S : Plane Ideal)

/-- Whether the box at `p` overlaps the box at `q` by more than a half. -/
def Ov (p q : Place) : Prop := over (X0 p) (X1 p) (X2 p) (X3 p) (X0 q) (X1 q) (X2 q) (X3 q) = 1#1

/-- The row of a step. -/
def rowAt : Option Place → EReal × EReal × EReal × EReal × EReal
  | some p => (X0 p, X1 p, X2 p, X3 p, S p)
  | none => (0, 0, 0, 0, 0)

/-- A live row is the box and the score, any other row is zero. -/
theorem rowOf_eq (m p0 p1 p2 p3 : EReal) : rowOf (F := Ideal) m p0 p1 p2 p3 = if Bar < m then (p0, p1, p2, p3, m) else (0, 0, 0, 0, 0) := by
  have hv : (vflag (F := Ideal) m : EReal) = if Bar < m then 1 else 0 := by
    show ((((BitVec.ofBool (decide (Bar < m))).setWidth 32).toInt : ℝ) : EReal) = _
    by_cases h : Bar < m
    · rw [if_pos h, decide_eq_true h]
      show (((1 : ℤ) : ℝ) : EReal) = 1
      norm_num
    · rw [if_neg h, decide_eq_false h]
      show (((0 : ℤ) : ℝ) : EReal) = 0
      norm_num
  show ((p0 * vflag (F := Ideal) m, p1 * vflag (F := Ideal) m, p2 * vflag (F := Ideal) m, p3 * vflag (F := Ideal) m, m * vflag (F := Ideal) m) : EReal × EReal × EReal × EReal × EReal) = _
  rw [hv]
  split
  · simp only [mul_one]
  · simp only [mul_zero]

/-- Filling what the box at `p` overlaps. -/
theorem suppress_fills (L : Plane Ideal) (p : Place) :
    Fills (α := EReal) N (Ov X0 X1 X2 X3 p) L (suppress X0 X1 X2 X3 (areas X0 X1 X2 X3) L (X0 p) (X1 p) (X2 p) (X3 p)) := by
  have h := fillAt_fills (overV X0 X1 X2 X3 (areas X0 X1 X2 X3) (X0 p) (X1 p) (X2 p) (X3 p)) L
  have e : ∀ q, overV X0 X1 X2 X3 (areas X0 X1 X2 X3) (X0 p) (X1 p) (X2 p) (X3 p) q = over (X0 p) (X1 p) (X2 p) (X3 p) (X0 q) (X1 q) (X2 q) (X3 q) := fun q => by
    unfold overV interV areas
    simp only [same_self]
    rfl
  exact ⟨fun q hq => h.hit q ((e q).trans hq), fun q hq => h.miss q fun hq' => hq ((e q).symm.trans hq')⟩

/-- What the kernel knows before a trip. -/
structure KInv (s : St Ideal) : Prop where
  known : ∃ p, s.m = s.live p ∧ s.p0 = X0 p ∧ s.p1 = X1 p ∧ s.p2 = X2 p ∧ s.p3 = X3 p
    ∧ Known (α := EReal) num s.live p (s.force = 1#1) s.a s.b
  score : ∀ q, Bar < s.live q → s.live q = S q

variable {X0 X1 X2 X3 S}

/-- What `cut` leaves. -/
theorem cut_fills (x : Plane Ideal) (v : EReal) : Fills (α := EReal) N (fun q => (x q : EReal) = v) x (cut x v) := by
  have h := fillAt_fills (isEq x v) x
  exact ⟨fun q hq => h.hit q (on_isEq.2 hq), fun q hq => h.miss q fun hq' => hq (on_isEq.1 hq')⟩

/-- The exact pick on any live scores. -/
theorem exact_known (hX : ∀ q, N ≤ X0 q ∧ N ≤ X1 q ∧ N ≤ X2 q ∧ N ≤ X3 q) (L : Plane Ideal) :
    ∃ p, redMax L = L p ∧ pick numbers L X0 = X0 p ∧ pick numbers L X1 = X1 p ∧ pick numbers L X2 = X2 p ∧ pick numbers L X3 = X3 p
      ∧ Known (α := EReal) num L p (Scalar.cmpf (F := Ideal) .ogt (cnt (F := Ideal) (isEq L (redMax L))) (Scalar.ofBits .f32 0x3FC00000#32) = 1#1)
        (redMax (cut L (redMax L))) (redMax (cut (cut L (redMax L)) (redMax (cut L (redMax L))))) := by
  obtain ⟨p, hp, hm, hon, hu⟩ := firstMask_pick L
  have hcut := cut_fills L (redMax L)
  have hcut' := cut_fills (cut L (redMax L)) (redMax (cut L (redMax L)))
  have pk : ∀ X : Plane Ideal, N ≤ X p → pick numbers L X = X p := fun X h => maxOn_eq hon hu h
  refine ⟨p, hm, pk X0 (hX p).1, pk X1 (hX p).2.1, pk X2 (hX p).2.2.1, pk X3 (hX p).2.2.2, hp, fun hf q hq => ?_, fun q hq => ?_, fun q hq hq' => ?_⟩
  · exact most_one hf (on_isEq.2 (hq.trans hm.symm)) (on_isEq.2 hm.symm)
  · rw [← hcut.miss q (fun h => hq (h.trans hm))]; exact le_redMax (cut L (redMax L)) q
  · have e : cut L (redMax L) q = L q := hcut.miss q fun h => hq (h.trans hm)
    rw [← e] at hq' ⊢
    rw [← hcut'.miss q hq']; exact le_redMax (cut (cut L (redMax L)) (redMax (cut L (redMax L)))) q

/-- The state of an exact pick is one the kernel knows what it should of. -/
theorem exact_inv (hX : ∀ q, N ≤ X0 q ∧ N ≤ X1 q ∧ N ≤ X2 q ∧ N ≤ X3 q) (L : Plane Ideal) (hs : ∀ q, Bar < L q → L q = S q) :
    KInv X0 X1 X2 X3 S ⟨L, exactCarry X0 X1 X2 X3 numbers L⟩ := by
  obtain ⟨p, em, e0, e1, e2, e3, hk⟩ := exact_known hX L
  refine ⟨⟨p, ?_⟩, hs⟩
  unfold exactCarry
  dsimp only [St.m, St.p0, St.p1, St.p2, St.p3, St.a, St.b, St.force]
  exact ⟨em, e0, e1, e2, e3, hk⟩

/-- The test of a state is its bit. -/
theorem rare_iff (s : St Ideal) : s.rare X0 X1 X2 X3 ↔ rareBit X0 X1 X2 X3 s.live s.p0 s.p1 s.p2 s.p3 s.a s.b s.force = 1#1 := by
  unfold St.rare
  generalize rareBit X0 X1 X2 X3 s.live s.p0 s.p1 s.p2 s.p3 s.a s.b s.force = b
  revert b; decide

/-- A score that a step leaves live is the one before. -/
theorem score_of_fills {M L L' : Place → EReal} {mark : Place → Prop} (hf : Fills N mark L L') (h : ∀ q, Bar < L q → L q = M q) (q : Place) (hq : Bar < L' q) :
    L' q = M q := by
  have := hf.live N_le_Bar hq
  rw [this.2] at hq ⊢
  exact h q hq

/-- The row of a pick. -/
theorem rowOf_pick {L : Place → EReal} {p : Place} (hs : ∀ q, Bar < L q → L q = S q) :
    rowOf (F := Ideal) (L p) (X0 p) (X1 p) (X2 p) (X3 p) = rowAt X0 X1 X2 X3 S (if Bar < L p then some p else none) := by
  rw [rowOf_eq]
  split
  · next h => rw [hs p h]; rfl
  · rfl

/-- A trip that picks exactly is two steps. -/
theorem trip_rare (hX : ∀ q, N ≤ X0 q ∧ N ≤ X1 q ∧ N ≤ X2 q ∧ N ≤ X3 q) {s : St Ideal} (h : KInv X0 X1 X2 X3 S s) :
    ∃ L1 o o', Step (α := EReal) num Bar N (Ov X0 X1 X2 X3) s.live L1 o
      ∧ Step (α := EReal) num Bar N (Ov X0 X1 X2 X3) L1 (s.nextRare X0 X1 X2 X3 (areas X0 X1 X2 X3) numbers).live o'
      ∧ s.row0 = rowAt X0 X1 X2 X3 S o
      ∧ pickRow X0 X1 X2 X3 numbers (s.live1 X0 X1 X2 X3 (areas X0 X1 X2 X3)) = rowAt X0 X1 X2 X3 S o'
      ∧ KInv X0 X1 X2 X3 S (s.nextRare X0 X1 X2 X3 (areas X0 X1 X2 X3) numbers) := by
  obtain ⟨⟨p, em, e0, e1, e2, e3, hk⟩, hs⟩ := h
  have f1 := suppress_fills X0 X1 X2 X3 s.live p
  have el : s.live1 X0 X1 X2 X3 (areas X0 X1 X2 X3) = suppress X0 X1 X2 X3 (areas X0 X1 X2 X3) s.live (X0 p) (X1 p) (X2 p) (X3 p) := by
    unfold St.live1; rw [e0, e1, e2, e3]
  rw [← el] at f1
  obtain ⟨p', em', e0', e1', e2', e3', hk'⟩ := exact_known hX (s.live1 X0 X1 X2 X3 (areas X0 X1 X2 X3))
  have hs1 := score_of_fills f1 hs
  have f2 := suppress_fills X0 X1 X2 X3 (s.live1 X0 X1 X2 X3 (areas X0 X1 X2 X3)) p'
  have en : (s.nextRare X0 X1 X2 X3 (areas X0 X1 X2 X3) numbers).live = suppress X0 X1 X2 X3 (areas X0 X1 X2 X3) (s.live1 X0 X1 X2 X3 (areas X0 X1 X2 X3)) (X0 p') (X1 p') (X2 p') (X3 p') := by
    unfold St.nextRare liveOf; dsimp only; rw [e0', e1', e2', e3']
  rw [← en] at f2
  refine ⟨_, _, _, step_of_pick N_le_Bar hk.pick f1, step_of_pick N_le_Bar hk'.pick f2, ?_, ?_, ?_⟩
  · unfold St.row0; rw [em, e0, e1, e2, e3]; exact rowOf_pick hs
  · unfold pickRow; rw [em', e0', e1', e2', e3']; exact rowOf_pick hs1
  · rw [en] at f2
    have hs2 := score_of_fills f2 hs1
    rw [← e0', ← e1', ← e2', ← e3'] at hs2
    exact exact_inv hX (liveOf X0 X1 X2 X3 (areas X0 X1 X2 X3) numbers (s.live1 X0 X1 X2 X3 (areas X0 X1 X2 X3))) (by unfold liveOf; exact hs2)

/-- A trip that takes the guessed picks is two steps. -/
theorem trip_spec (hX : ∀ q, N ≤ X0 q ∧ N ≤ X1 q ∧ N ≤ X2 q ∧ N ≤ X3 q) (hself : ∀ q, Bar < S q → Ov X0 X1 X2 X3 q q) {s : St Ideal}
    (h : KInv X0 X1 X2 X3 S s) (hr : ¬ s.rare X0 X1 X2 X3) :
    ∃ L1 o o', Step (α := EReal) num Bar N (Ov X0 X1 X2 X3) s.live L1 o
      ∧ Step (α := EReal) num Bar N (Ov X0 X1 X2 X3) L1 (s.nextSpec X0 X1 X2 X3 (areas X0 X1 X2 X3)).live o'
      ∧ s.row0 = rowAt X0 X1 X2 X3 S o
      ∧ rowOf s.a (maxEq s.live s.a X0) (maxEq s.live s.a X1) (maxEq s.live s.a X2) (maxEq s.live s.a X3) = rowAt X0 X1 X2 X3 S o'
      ∧ KInv X0 X1 X2 X3 S (s.nextSpec X0 X1 X2 X3 (areas X0 X1 X2 X3)) := by
  obtain ⟨⟨p, em, e0, e1, e2, e3, hk⟩, hs⟩ := h
  rw [rare_iff, e0, e1, e2, e3] at hr
  have hr' : ¬ ((s.force = 1#1 ∨ ((notOne (cnt (F := Ideal) (isEq s.live s.a)) = 1#1 ∨ Scalar.cmpf (F := Ideal) .ole s.a halfFill = 1#1)
        ∨ over (X0 p) (X1 p) (X2 p) (X3 p) (maxEq s.live s.a X0) (maxEq s.live s.a X1) (maxEq s.live s.a X2) (maxEq s.live s.a X3) = 1#1))
      ∨ (((notOne (cnt (F := Ideal) (isEq s.live s.b)) = 1#1 ∨ Scalar.cmpf (F := Ideal) .ole s.b halfFill = 1#1)
        ∨ over (X0 p) (X1 p) (X2 p) (X3 p) (maxEq s.live s.b X0) (maxEq s.live s.b X1) (maxEq s.live s.b X2) (maxEq s.live s.b X3) = 1#1)
        ∨ over (maxEq s.live s.a X0) (maxEq s.live s.a X1) (maxEq s.live s.a X2) (maxEq s.live s.a X3) (maxEq s.live s.b X0) (maxEq s.live s.b X1) (maxEq s.live s.b X2) (maxEq s.live s.b X3) = 1#1)) := fun hor => hr <|
    or_eq_one.2 (hor.imp (fun h => or_eq_one.2 (h.imp id fun h => or_eq_one.2 (h.imp or_eq_one.2 id)))
      fun h => or_eq_one.2 (h.imp (fun h => or_eq_one.2 (h.imp or_eq_one.2 id)) id))
  simp only [not_or] at hr'
  obtain ⟨⟨hforce, ⟨hA1, hAT⟩, hpA⟩, ⟨⟨hB1, hBT⟩, hpB⟩, hAB⟩ := hr'
  obtain ⟨A, onA, uA⟩ := one_of_notOne hA1
  obtain ⟨B, onB, uB⟩ := one_of_notOne hB1
  have eA : s.live A = s.a := on_isEq.1 onA
  have eB : s.live B = s.b := on_isEq.1 onB
  have gt : ∀ v : EReal, Scalar.cmpf (F := Ideal) (φ := .f32) .ole v halfFill ≠ 1#1 → Bar < v := fun v hv => not_le.1 fun hle => hv <| by
    show BitVec.ofBool (decide (v ≤ Bar)) = 1#1
    rw [decide_eq_true hle]; rfl
  have mA : ∀ X : Plane Ideal, N ≤ X A → maxEq s.live s.a X = X A := fun X h => maxOn_eq onA uA h
  have mB : ∀ X : Plane Ideal, N ≤ X B → maxEq s.live s.b X = X B := fun X h => maxOn_eq onB uB h
  have a0 := mA X0 (hX A).1
  have a1 := mA X1 (hX A).2.1
  have a2 := mA X2 (hX A).2.2.1
  have a3 := mA X3 (hX A).2.2.2
  have b0 := mB X0 (hX B).1
  have b1 := mB X1 (hX B).2.1
  have b2 := mB X2 (hX B).2.2.1
  have b3 := mB X3 (hX B).2.2.2
  rw [a0, a1, a2, a3] at hpA hAB
  rw [b0, b1, b2, b3] at hpB hAB
  have f1 := suppress_fills X0 X1 X2 X3 s.live p
  have el : s.live1 X0 X1 X2 X3 (areas X0 X1 X2 X3) = suppress X0 X1 X2 X3 (areas X0 X1 X2 X3) s.live (X0 p) (X1 p) (X2 p) (X3 p) := by
    unfold St.live1; rw [e0, e1, e2, e3]
  rw [← el] at f1
  have f2 := suppress_fills X0 X1 X2 X3 (s.live1 X0 X1 X2 X3 (areas X0 X1 X2 X3)) A
  have en : (s.nextSpec X0 X1 X2 X3 (areas X0 X1 X2 X3)).live = suppress X0 X1 X2 X3 (areas X0 X1 X2 X3) (s.live1 X0 X1 X2 X3 (areas X0 X1 X2 X3)) (X0 A) (X1 A) (X2 A) (X3 A) := by
    unfold St.nextSpec; dsimp only; rw [a0, a1, a2, a3]
  rw [← en] at f2
  have hs1 := score_of_fills f1 hs
  have fX : Fills (α := EReal) N (fun q => (s.live q : EReal) = s.live p ∨ (s.live q : EReal) = s.live A ∨ (s.live q : EReal) = s.live B) s.live (excl s.live s.m s.a s.b) := by
    rw [em, ← eA, ← eB]
    have g1 := fillAt_fills (isEq s.live (s.live B)) s.live
    have g2 := fillAt_fills (isEq s.live (s.live A)) (fillAt (isEq s.live (s.live B)) s.live)
    have g3 := fillAt_fills (isEq s.live (s.live p)) (fillAt (isEq s.live (s.live A)) (fillAt (isEq s.live (s.live B)) s.live))
    refine ⟨fun q hq => ?_, fun q hq => ?_⟩
    · by_cases c3 : On (isEq s.live (s.live p)) q
      · exact g3.hit q c3
      refine (g3.miss q c3).trans ?_
      by_cases c2 : On (isEq s.live (s.live A)) q
      · exact g2.hit q c2
      refine (g2.miss q c2).trans (g1.hit q ?_)
      rw [on_isEq] at c3 c2 ⊢
      exact (hq.resolve_left c3).resolve_left c2
    · simp only [not_or] at hq
      exact ((g3.miss q fun c => hq.1 (on_isEq.1 c)).trans (g2.miss q fun c => hq.2.1 (on_isEq.1 c))).trans (g1.miss q fun c => hq.2.2 (on_isEq.1 c))
  have fY := cut_fills (excl s.live s.m s.a s.b) (redMax (excl s.live s.m s.a s.b))
  rw [← eA, ← eB] at hk
  have tw := hk.two N_le_Bar (over := Ov X0 X1 X2 X3) (fun q hq => hself q (hs q hq ▸ hq)) hforce
    (fun q hq => uA q (on_isEq.2 (hq.trans eA))) (fun q hq => uB q (on_isEq.2 (hq.trans eB)))
    (eA ▸ gt _ hAT) (eB ▸ gt _ hBT) hpA hpB hAB f1 f2 fX fY (le_redMax (excl s.live s.m s.a s.b)) (le_redMax (cut (excl s.live s.m s.a s.b) (redMax (excl s.live s.m s.a s.b))))
  obtain ⟨hTp, pkA, e1A, e2B, hk2⟩ := tw
  refine ⟨_, _, _, step_of_pick N_le_Bar hk.pick f1, step_of_pick N_le_Bar pkA f2, ?_, ?_, ⟨⟨B, ?_⟩, ?_⟩⟩
  · unfold St.row0; rw [em, e0, e1, e2, e3]; exact rowOf_pick hs
  · rw [a0, a1, a2, a3, ← eA, ← e1A]; exact rowOf_pick hs1
  · have hm : s.b = (s.nextSpec X0 X1 X2 X3 (areas X0 X1 X2 X3)).live B := eB.symm.trans e2B.symm
    have hk3 : Known (α := EReal) num (s.nextSpec X0 X1 X2 X3 (areas X0 X1 X2 X3)).live B (0#1 = 1#1) (redMax (excl s.live s.m s.a s.b))
        (redMax (cut (excl s.live s.m s.a s.b) (redMax (excl s.live s.m s.a s.b)))) :=
      ⟨hk2.pick, fun _ => hk2.alone not_false, hk2.second, hk2.third⟩
    unfold St.nextSpec specCarry at hm hk3 ⊢
    dsimp only [St.m, St.p0, St.p1, St.p2, St.p3, St.a, St.b, St.force] at hm hk3 ⊢
    exact ⟨hm, b0, b1, b2, b3, hk3⟩
  · exact score_of_fills f2 hs1

/-- A trip is two steps. -/
theorem trip_steps (hX : ∀ q, N ≤ X0 q ∧ N ≤ X1 q ∧ N ≤ X2 q ∧ N ≤ X3 q) (hself : ∀ q, Bar < S q → Ov X0 X1 X2 X3 q q) {s : St Ideal}
    (h : KInv X0 X1 X2 X3 S s) :
    ∃ L1 o o', Step (α := EReal) num Bar N (Ov X0 X1 X2 X3) s.live L1 o
      ∧ Step (α := EReal) num Bar N (Ov X0 X1 X2 X3) L1 (s.next X0 X1 X2 X3 (areas X0 X1 X2 X3) numbers).live o'
      ∧ s.row0 = rowAt X0 X1 X2 X3 S o ∧ s.row1 X0 X1 X2 X3 (areas X0 X1 X2 X3) numbers = rowAt X0 X1 X2 X3 S o'
      ∧ KInv X0 X1 X2 X3 S (s.next X0 X1 X2 X3 (areas X0 X1 X2 X3) numbers) := by
  unfold St.next St.row1
  by_cases hr : s.rare X0 X1 X2 X3
  · simp only [if_pos hr]; exact trip_rare hX h
  · simp only [if_neg hr]; exact trip_spec hX hself h hr

/-- The kernel's first state. -/
theorem init_inv (hX : ∀ q, N ≤ X0 q ∧ N ≤ X1 q ∧ N ≤ X2 q ∧ N ≤ X3 q) : KInv X0 X1 X2 X3 S (init X0 X1 X2 X3 S) := by
  have e : init X0 X1 X2 X3 S = ⟨S, exactCarry X0 X1 X2 X3 numbers S⟩ := by unfold init; simp only [same_self]
  rw [e]
  exact exact_inv hX S fun _ _ => rfl

/-- Before every trip the kernel knows what it should. -/
theorem iter_inv (hX : ∀ q, N ≤ X0 q ∧ N ≤ X1 q ∧ N ≤ X2 q ∧ N ≤ X3 q) (hself : ∀ q, Bar < S q → Ov X0 X1 X2 X3 q q) :
    ∀ k, KInv X0 X1 X2 X3 S (iter X0 X1 X2 X3 S k)
  | 0 => init_inv hX
  | k + 1 => by
    obtain ⟨-, -, -, -, -, -, -, h⟩ := trip_steps hX hself (iter_inv hX hself k)
    exact h

end
end Cert.Proof.Nms
end
-- ==== Proof.KerIn.lean ====
/- The planes that the kernel reads: the columns of the boxes and the scores, padded and laid out in rows. -/
module

public import proofs.«01_k».proof.Proof.Run
public import proofs.«01_k».proof.Proof.KerStep
public import Idealize.ShloMosaic.Lib.KernelVsHost
public import Idealize.ShloMosaic.Lib.StableHlo.RunRead

@[expose] public section

noncomputable section

namespace Cert.Proof.Nms

open Cert.KernelIdeal Cert.KernelIdeal.Gen
open Idealize.ShloMosaic Idealize.ShloMosaic.TcCoe Idealize.ShloMosaic.Tactic
open Cert.Proof.Consts

/-- A list of numbers, padded and laid out in rows. -/
def laid (x : FVec Ideal S20000 .f32) (v : FVec Ideal S_ .f32) : Plane Ideal :=
  shapeCast S160x128 (pad S20480 ![0] ![480] ![0] x v pads_S20000_S20480_04800 h_S_) shapeCasts_S20480_S160x128

/-- A column of the boxes. -/
def columnOf (B : FVec Ideal S20000x4 .f32) (k : Fin 4) (h : S20000x4.Slices ![0, k.val] S20000x1) : FVec Ideal S20000 .f32 :=
  shapeCast S20000 (extractStridedSlice S20000x1 ![0, k.val] B h) shapeCasts_S20000x1_S20000

/-- The value that a column is padded with. -/
def zeroPad : FVec Ideal S_ .f32 := sitofp .f32 (constantI S_ 32 0#32)

/-- Within the list a place of the plane holds the entry with its number. -/
theorem laid_in (x : FVec Ideal S20000 .f32) (v : FVec Ideal S_ .f32) (q : Place) (n : S20000.Idx) (hn : num q = (n 0).val) : laid x v q = x n := by
  unfold laid
  rw [shapeCast_apply _ _ q (ValueIdx.ix1 (⟨num q, num_lt q⟩ : Fin 20480)) (by
    rw [Shape.rowMajor_val_one, Shape.rowMajor_val_two]
    show num q = (q 0).val * 128 + (q 1).val
    unfold num; omega)]
  refine pad_apply_of_inside _ _ _ x v _ _ _ n (fun a => ?_)
  match a with
  | 0 => show num q = 0 + (n 0).val * (0 + 1); omega

/-- Past the list it holds the padding. -/
theorem laid_out (x : FVec Ideal S20000 .f32) (v : FVec Ideal S_ .f32) (q : Place) (hn : 20000 ≤ num q) : laid x v q = v (Shape.Idx.first h_S_) := by
  unfold laid
  rw [shapeCast_apply _ _ q (ValueIdx.ix1 (⟨num q, num_lt q⟩ : Fin 20480)) (by
    rw [Shape.rowMajor_val_one, Shape.rowMajor_val_two]
    show num q = (q 0).val * 128 + (q 1).val
    unfold num; omega)]
  refine pad_apply_of_not_inside _ _ _ x v _ _ _ (0 : Fin 1) (fun h => ?_)
  have h2 : (num q - 0) / (0 + 1) < 20000 := h.2.2
  omega

/-- A column at a place. -/
theorem columnOf_apply (B : FVec Ideal S20000x4 .f32) (k : Fin 4) (h : S20000x4.Slices ![0, k.val] S20000x1) (n : S20000.Idx) :
    columnOf B k h n = B (ValueIdx.ix2 (⟨(n 0).val, (n 0).isLt⟩ : Fin 20000) k) := by
  unfold columnOf
  rw [shapeCast_apply _ _ n (ValueIdx.ix2 (⟨(n 0).val, (n 0).isLt⟩ : Fin 20000) (0 : Fin 1)) (by
    rw [Shape.rowMajor_val_one, Shape.rowMajor_val_two]
    show (n 0).val * 1 + 0 = (n 0).val
    omega)]
  refine extractStridedSlice_apply _ _ _ _ _ (fun a => ?_)
  match a with
  | 0 => show (n 0).val = 0 + (n 0).val; omega
  | 1 => show k.val = k.val + 0; omega

theorem zeroPad_eq (i : S_.Idx) : zeroPad i = (0 : EReal) := by
  show (((0#32 : BitVec 32).toInt : ℝ) : EReal) = 0
  simp

section
variable (m : (ℓ : Loc nD τ sig) → Buf (Elt Ideal) ℓ) (c : Dev nD)

/-- The boxes and the scores as launched. -/
abbrev kboxes : FVec Ideal S20000x4 .f32 := m ((c.tc : Thread nD τ).loc main_arg0)
abbrev kscores : FVec Ideal S20000 .f32 := m ((c.tc : Thread nD τ).loc main_arg1)

theorem V_v3 : V m c main_v3 = laid (columnOf (kboxes m c) 0 slices_S20000x4_S20000x1_0_0) zeroPad := by
  show StableHlo.after _ _ _ = _
  simp only [List.flatten_cons, List.flatten_nil, List.append_nil, List.cons_append, List.nil_append]
  after_reads_simp
  rfl
theorem V_v7 : V m c main_v7 = laid (columnOf (kboxes m c) 1 slices_S20000x4_S20000x1_0_1) zeroPad := by
  show StableHlo.after _ _ _ = _
  simp only [List.flatten_cons, List.flatten_nil, List.append_nil, List.cons_append, List.nil_append]
  after_reads_simp
  rfl
theorem V_v11 : V m c main_v11 = laid (columnOf (kboxes m c) 2 slices_S20000x4_S20000x1_0_2) zeroPad := by
  show StableHlo.after _ _ _ = _
  simp only [List.flatten_cons, List.flatten_nil, List.append_nil, List.cons_append, List.nil_append]
  after_reads_simp
  rfl
theorem V_v15 : V m c main_v15 = laid (columnOf (kboxes m c) 3 slices_S20000x4_S20000x1_0_3) zeroPad := by
  show StableHlo.after _ _ _ = _
  simp only [List.flatten_cons, List.flatten_nil, List.append_nil, List.cons_append, List.nil_append]
  after_reads_simp
  rfl
theorem V_v17 : V m c main_v17 = laid (kscores m c) (constant S_ .f32 0xF149F2CA#32) := by
  show StableHlo.after _ _ _ = _
  simp only [List.flatten_cons, List.flatten_nil, List.append_nil, List.cons_append, List.nil_append]
  after_reads_simp
  rfl
end

end Cert.Proof.Nms
end
end
-- ==== Proof.KerBlk.lean ====
/- Each block that the kernel is given is its whole array, and each block that it writes too. -/
module

public import proofs.«01_k».proof.Proof.KerIn
public import Idealize.ShloMosaic.Lib.Pipeline.ValueKit

@[expose] public section

noncomputable section

namespace Cert.Proof.Nms

open Cert.KernelIdeal Cert.KernelIdeal.Gen
open Idealize.ShloMosaic Idealize.ShloMosaic.TcCoe Idealize.ShloMosaic.Tactic

/-- Two places of a plane with the same coordinates, the first counted from the start of a block. -/
theorem plane_ext {p q : S160x128.Idx} (h0 : (p 0).val = 0 * 160 + 1 * (q 0).val) (h1 : (p 1).val = 0 * 128 + 1 * (q 1).val) : p = q := by
  funext a; apply Fin.ext
  match a with
  | ⟨0, _⟩ => show (p 0).val = (q 0).val; omega
  | ⟨1, _⟩ => show (p 1).val = (q 1).val; omega

theorem emb_0 (t : Fin cfg0.N) (q : S160x128.Idx) : ((cfg0.win 0).blk t).view.emb q = q := plane_ext rfl rfl
theorem emb_1 (t : Fin cfg0.N) (q : S160x128.Idx) : ((cfg0.win 1).blk t).view.emb q = q := plane_ext rfl rfl
theorem emb_2 (t : Fin cfg0.N) (q : S160x128.Idx) : ((cfg0.win 2).blk t).view.emb q = q := plane_ext rfl rfl
theorem emb_3 (t : Fin cfg0.N) (q : S160x128.Idx) : ((cfg0.win 3).blk t).view.emb q = q := plane_ext rfl rfl
theorem emb_4 (t : Fin cfg0.N) (q : S160x128.Idx) : ((cfg0.win 4).blk t).view.emb q = q := plane_ext rfl rfl

section
variable (m : (ℓ : Loc nD τ sig) → Buf (Elt Ideal) ℓ) (c : Dev nD)

theorem iblk_0 (t : Fin cfg0.N) : iblk m c 0 t = laid (columnOf (kboxes m c) 0 slices_S20000x4_S20000x1_0_0) zeroPad :=
  (funext fun q => congrArg (V m c main_v3) (emb_0 t q)).trans (V_v3 m c)
theorem iblk_1 (t : Fin cfg0.N) : iblk m c 1 t = laid (columnOf (kboxes m c) 1 slices_S20000x4_S20000x1_0_1) zeroPad :=
  (funext fun q => congrArg (V m c main_v7) (emb_1 t q)).trans (V_v7 m c)
theorem iblk_2 (t : Fin cfg0.N) : iblk m c 2 t = laid (columnOf (kboxes m c) 2 slices_S20000x4_S20000x1_0_2) zeroPad :=
  (funext fun q => congrArg (V m c main_v11) (emb_2 t q)).trans (V_v11 m c)
theorem iblk_3 (t : Fin cfg0.N) : iblk m c 3 t = laid (columnOf (kboxes m c) 3 slices_S20000x4_S20000x1_0_3) zeroPad :=
  (funext fun q => congrArg (V m c main_v15) (emb_3 t q)).trans (V_v15 m c)
theorem iblk_4 (t : Fin cfg0.N) : iblk m c 4 t = laid (kscores m c) (constant S_ .f32 0xF149F2CA#32) :=
  (funext fun q => congrArg (V m c main_v17) (emb_4 t q)).trans (V_v17 m c)
end
end Cert.Proof.Nms
end
end
-- ==== Proof.KerOut.lean ====
/- What the kernel leaves in its result: the five columns of its rows, side by side. -/
module

public import proofs.«01_k».proof.Proof.KerBlk

@[expose] public section

noncomputable section

namespace Cert.Proof.Nms

open Cert.KernelIdeal Cert.KernelIdeal.Gen
open Idealize.ShloMosaic Idealize.ShloMosaic.TcCoe Idealize.ShloMosaic.Tactic

/-- Number `j` of a row. -/
def part (x : EReal × EReal × EReal × EReal × EReal) : Fin 5 → EReal
  | 0 => x.1
  | 1 => x.2.1
  | 2 => x.2.2.1
  | 3 => x.2.2.2.1
  | 4 => x.2.2.2.2

/-- Five columns side by side. -/
theorem columns_apply (f : Fin 5 → S300x1.Idx → EReal)
    (h : Shape.Concatenates (([⟨S300x1, f 0⟩, ⟨S300x1, f 1⟩, ⟨S300x1, f 2⟩, ⟨S300x1, f 3⟩, ⟨S300x1, f 4⟩] : List ((s : Shape) × (s.Idx → EReal))).map (·.1)) S300x5 1)
    (r : Fin 300) (j : Fin 5) :
    concatenate S300x5 1 [⟨S300x1, f 0⟩, ⟨S300x1, f 1⟩, ⟨S300x1, f 2⟩, ⟨S300x1, f 3⟩, ⟨S300x1, f 4⟩] h (ValueIdx.ix2 r j) = f j (ValueIdx.ix2 r (0 : Fin 1)) := by
  refine concatenate_apply_piece (t := S300x5) 1 _ h (ValueIdx.ix2 r j) j.val j.isLt S300x1 (f j) ?_ rfl j.val ?_ (ValueIdx.ix2 r (0 : Fin 1)) (fun b hb => ?_) rfl
  · match j with
    | 0 => rfl
    | 1 => rfl
    | 2 => rfl
    | 3 => rfl
    | 4 => rfl
  · match j with
    | 0 => rfl
    | 1 => rfl
    | 2 => rfl
    | 3 => rfl
    | 4 => rfl
  · match b with
    | 0 => rfl
    | 1 => exact absurd rfl hb

/-- The same, of columns that are equal to the named ones. -/
theorem columns_of (f : Fin 5 → S300x1.Idx → EReal) {y0 y1 y2 y3 y4 : S300x1.Idx → EReal} (e0 : y0 = f 0) (e1 : y1 = f 1) (e2 : y2 = f 2) (e3 : y3 = f 3) (e4 : y4 = f 4)
    (h : Shape.Concatenates (([⟨S300x1, y0⟩, ⟨S300x1, y1⟩, ⟨S300x1, y2⟩, ⟨S300x1, y3⟩, ⟨S300x1, y4⟩] : List ((s : Shape) × (s.Idx → EReal))).map (·.1)) S300x5 1)
    (r : Fin 300) (j : Fin 5) :
    concatenate S300x5 1 [⟨S300x1, y0⟩, ⟨S300x1, y1⟩, ⟨S300x1, y2⟩, ⟨S300x1, y3⟩, ⟨S300x1, y4⟩] h (ValueIdx.ix2 r j) = f j (ValueIdx.ix2 r (0 : Fin 1)) := by
  subst e0 e1 e2 e3 e4
  exact columns_apply f h r j

section
variable (m : (ℓ : Loc nD τ sig) → Buf (Elt Ideal) ℓ) (c : Dev nD)

/-- After the run each result column holds its number of every row. -/
theorem arr_5 : (dats m 0 c).arrAt 5 cfg0.N = fun r : S300x1.Idx => part (rows m c (r 0).val) 0 := by
  refine (dats m 0 c).arrAt_eq_of_after_last 5 t0_0 (by decide +kernel) _ fun j => ?_
  rw [after_5]; rfl
theorem arr_6 : (dats m 0 c).arrAt 6 cfg0.N = fun r : S300x1.Idx => part (rows m c (r 0).val) 1 := by
  refine (dats m 0 c).arrAt_eq_of_after_last 6 t0_0 (by decide +kernel) _ fun j => ?_
  rw [after_6]; rfl
theorem arr_7 : (dats m 0 c).arrAt 7 cfg0.N = fun r : S300x1.Idx => part (rows m c (r 0).val) 2 := by
  refine (dats m 0 c).arrAt_eq_of_after_last 7 t0_0 (by decide +kernel) _ fun j => ?_
  rw [after_7]; rfl
theorem arr_8 : (dats m 0 c).arrAt 8 cfg0.N = fun r : S300x1.Idx => part (rows m c (r 0).val) 3 := by
  refine (dats m 0 c).arrAt_eq_of_after_last 8 t0_0 (by decide +kernel) _ fun j => ?_
  rw [after_8]; rfl
theorem arr_9 : (dats m 0 c).arrAt 9 cfg0.N = fun r : S300x1.Idx => part (rows m c (r 0).val) 4 := by
  refine (dats m 0 c).arrAt_eq_of_after_last 9 t0_0 (by decide +kernel) _ fun j => ?_
  rw [after_9]; rfl

/-- THE RESULT. A row of the result holds the five numbers of the row. -/
theorem result_eq (r : Fin 300) (j : Fin 5) :
    (Pipeline.afterTail₀ cfgs (dats m) 0 (V0 m) [hostOps1] c main_v19 : FVec Ideal S300x5 .f32) (ValueIdx.ix2 r j) = part (rows m c r.val) j := by
  unfold Pipeline.afterTail₀
  simp only [List.flatten_cons, List.flatten_nil, List.append_nil, hostOps1]
  after_reads_simp
  have hinj : Function.Injective (Pipeline.arrRef spec0) := by decide
  have at_ (w : Fin 10) := Pipeline.withArrays_arr spec0 hinj c (V0 m c) (fun w => (dats m 0 c).arrAt w (cfgs 0).N) w
  have e0 := (at_ 5).trans (arr_5 m c)
  have e1 := (at_ 6).trans (arr_6 m c)
  have e2 := (at_ 7).trans (arr_7 m c)
  have e3 := (at_ 8).trans (arr_8 m c)
  have e4 := (at_ 9).trans (arr_9 m c)
  exact columns_of (fun k (i : S300x1.Idx) => part (rows m c (i 0).val) k) e0 e1 e2 e3 e4 _ r j
end

end Cert.Proof.Nms
end
end
-- ==== Proof.Iou.lean ====
/- The kernel's and the reference's tests on two boxes say the same. -/
module

public import proofs.«01_k».proof.Proof.Steps
public import proofs.«01_k».proof.Proof.Consts
public import Mathlib.Tactic.Linarith
public import Mathlib.Tactic.Positivity

@[expose] public section

noncomputable section

namespace Cert.Proof.Iou

open Idealize.ShloMosaic
open Cert.Proof.Consts

/-- The real number that the small term is. -/
def epsR : ℝ := 9007199 * (2 ^ 53)⁻¹

theorem epsR_pos : 0 < epsR := by unfold epsR; positivity

/-- A box with real coordinates, some width, and an area above the small term. -/
structure Proper (x0 x1 x2 x3 : EReal) (r0 r1 r2 r3 : ℝ) : Prop where
  e0 : x0 = r0
  e1 : x1 = r1
  e2 : x2 = r2
  e3 : x3 = r3
  wide : r0 < r2
  area : epsR < (r2 - r0) * (r3 - r1)

theorem Proper.tall {x0 x1 x2 x3 : EReal} {r0 r1 r2 r3 : ℝ} (h : Proper x0 x1 x2 x3 r0 r1 r2 r3) : r1 < r3 := by
  have := epsR_pos.trans h.area
  have hw := sub_pos.2 h.wide
  exact sub_pos.1 ((mul_pos_iff_of_pos_left hw).1 this)

/-- The area of the intersection of two boxes with real coordinates. -/
def meetR (p0 p1 p2 p3 q0 q1 q2 q3 : ℝ) : ℝ := max 0 (min p2 q2 - max p0 q0) * max 0 (min p3 q3 - max p1 q1)

theorem meetR_nonneg (p0 p1 p2 p3 q0 q1 q2 q3 : ℝ) : 0 ≤ meetR p0 p1 p2 p3 q0 q1 q2 q3 :=
  mul_nonneg (le_max_left _ _) (le_max_left _ _)

theorem meetR_le {p0 p1 p2 p3 : ℝ} (hw : p0 < p2) (hh : p1 < p3) (q0 q1 q2 q3 : ℝ) :
    meetR p0 p1 p2 p3 q0 q1 q2 q3 ≤ (p2 - p0) * (p3 - p1) := by
  have h1 := min_le_left p2 q2
  have h2 := le_max_left p0 q0
  have h3 := min_le_left p3 q3
  have h4 := le_max_left p1 q1
  exact mul_le_mul (max_le (by linarith) (by linarith)) (max_le (by linarith) (by linarith)) (le_max_left _ _) (by linarith)

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The area of the intersection of two boxes, as the reference computes it. -/
def meetE (p0 p1 p2 p3 q0 q1 q2 q3 : EReal) : EReal := max 0 (min p2 q2 - max p0 q0) * max 0 (min p3 q3 - max p1 q1)

theorem meetE_coe (p0 p1 p2 p3 q0 q1 q2 q3 : ℝ) : meetE p0 p1 p2 p3 q0 q1 q2 q3 = ((meetR p0 p1 p2 p3 q0 q1 q2 q3 : ℝ) : EReal) := by
  unfold meetE meetR
  rw [EReal.coe_mul, coe_max, coe_max, EReal.coe_sub, EReal.coe_sub, coe_max, coe_max, coe_min, coe_min, EReal.coe_zero]

/-- The reference's test on two boxes, given the area of their intersection. -/
def Test (p0 p1 p2 p3 q0 q1 q2 q3 : EReal) : Prop :=
  Ideal.ofBits .f32 0x3F000000#32 < Ideal.div (meetE p0 p1 p2 p3 q0 q1 q2 q3)
    ((((p2 - p0) * (p3 - p1) + (q2 - q0) * (q3 - q1)) - meetE p0 p1 p2 p3 q0 q1 q2 q3) + eps)

/-- The reference's test in real numbers. -/
theorem test_iff {x0 x1 x2 x3 y0 y1 y2 y3 : EReal} {p0 p1 p2 p3 q0 q1 q2 q3 : ℝ} (hp : Proper x0 x1 x2 x3 p0 p1 p2 p3) (hq : Proper y0 y1 y2 y3 q0 q1 q2 q3) :
    Test x0 x1 x2 x3 y0 y1 y2 y3 ↔ (p2 - p0) * (p3 - p1) + (q2 - q0) * (q3 - q1) - meetR p0 p1 p2 p3 q0 q1 q2 q3 + epsR
      < meetR p0 p1 p2 p3 q0 q1 q2 q3 + meetR p0 p1 p2 p3 q0 q1 q2 q3 := by
  have hI := meetR_le hp.wide hp.tall q0 q1 q2 q3
  have hB := epsR_pos.trans hq.area
  have he := epsR_pos
  unfold Test
  rw [hp.e0, hp.e1, hp.e2, hp.e3, hq.e0, hq.e1, hq.e2, hq.e3, meetE_coe, half_eq, eps_eq]
  set I := meetR p0 p1 p2 p3 q0 q1 q2 q3
  set D := (p2 - p0) * (p3 - p1) + (q2 - q0) * (q3 - q1) - I + epsR with hD
  have hDpos : 0 < D := by rw [hD]; linarith
  have e : ((((p2 : EReal) - p0) * (p3 - p1) + (q2 - q0) * (q3 - q1)) - (I : ℝ)) + ((9007199 * (2 ^ 53)⁻¹ : ℝ) : EReal) = ((D : ℝ) : EReal) := by
    rw [hD]; unfold epsR
    simp only [EReal.coe_add, EReal.coe_sub, EReal.coe_mul]
  rw [e]
  unfold Ideal.div
  rw [if_neg (by rw [← EReal.coe_zero, EReal.coe_eq_coe_iff]; exact hDpos.ne'), ← EReal.coe_inv, ← EReal.coe_mul, EReal.coe_lt_coe_iff, ← div_eq_mul_inv, lt_div_iff₀ hDpos]
  constructor <;> intro h <;> linarith

/-- The kernel's test in real numbers. -/
theorem over_iff {x0 x1 x2 x3 y0 y1 y2 y3 : EReal} {p0 p1 p2 p3 q0 q1 q2 q3 : ℝ} (hp : Proper x0 x1 x2 x3 p0 p1 p2 p3) (hq : Proper y0 y1 y2 y3 q0 q1 q2 q3) :
    Nms.over (F := Ideal) x0 x1 x2 x3 y0 y1 y2 y3 = 1#1 ↔ (p2 - p0) * (p3 - p1) + (q2 - q0) * (q3 - q1) - meetR p0 p1 p2 p3 q0 q1 q2 q3 + epsR
      < meetR p0 p1 p2 p3 q0 q1 q2 q3 + meetR p0 p1 p2 p3 q0 q1 q2 q3 := by
  have hz : Ideal.ofBits .f32 0x00000000#32 = 0 := by simp [Ideal.ofBits, Ideal.ieee]
  have hI : (Nms.inter (F := Ideal) x0 x1 x2 x3 y0 y1 y2 y3 : EReal) = ((meetR p0 p1 p2 p3 q0 q1 q2 q3 : ℝ) : EReal) := by
    rw [← meetE_coe, hp.e0, hp.e1, hp.e2, hp.e3, hq.e0, hq.e1, hq.e2, hq.e3]
    show max (min (p2 : EReal) q2 - max (p0 : EReal) q0) (Ideal.ofBits .f32 0x00000000#32) * max (min (p3 : EReal) q3 - max (p1 : EReal) q1) (Ideal.ofBits .f32 0x00000000#32) = _
    rw [hz, max_comm, max_comm _ (0 : EReal)]
    rfl
  have ho : Nms.over (F := Ideal) x0 x1 x2 x3 y0 y1 y2 y3 = BitVec.ofBool (decide (((x2 - x0) * (x3 - x1) + (y2 - y0) * (y3 - y1) - (Nms.inter (F := Ideal) x0 x1 x2 x3 y0 y1 y2 y3 : EReal) + eps : EReal)
      < (Nms.inter (F := Ideal) x0 x1 x2 x3 y0 y1 y2 y3 : EReal) + (Nms.inter (F := Ideal) x0 x1 x2 x3 y0 y1 y2 y3 : EReal))) := rfl
  have hb : ∀ b : Bool, BitVec.ofBool b = 1#1 ↔ b = true := by decide
  rw [ho, hI, hb, decide_eq_true_eq, eps_eq, hp.e0, hp.e1, hp.e2, hp.e3, hq.e0, hq.e1, hq.e2, hq.e3, ← EReal.coe_sub, ← EReal.coe_sub, ← EReal.coe_sub, ← EReal.coe_sub,
    ← EReal.coe_mul, ← EReal.coe_mul, ← EReal.coe_add, ← EReal.coe_sub, ← EReal.coe_add, ← EReal.coe_add, EReal.coe_lt_coe_iff]
  rfl

/-- A box overlaps itself. -/
theorem test_self {x0 x1 x2 x3 : EReal} {p0 p1 p2 p3 : ℝ} (hp : Proper x0 x1 x2 x3 p0 p1 p2 p3) : Test x0 x1 x2 x3 x0 x1 x2 x3 := by
  rw [test_iff hp hp]
  have hw := hp.wide
  have hh := hp.tall
  have ha := hp.area
  have e : meetR p0 p1 p2 p3 p0 p1 p2 p3 = (p2 - p0) * (p3 - p1) := by
    unfold meetR
    rw [min_self, max_self, min_self, max_self, max_eq_right (by linarith), max_eq_right (by linarith)]
  rw [e]; linarith

/-- The two tests say the same. -/
theorem over_iff_test {x0 x1 x2 x3 y0 y1 y2 y3 : EReal} {p0 p1 p2 p3 q0 q1 q2 q3 : ℝ} (hp : Proper x0 x1 x2 x3 p0 p1 p2 p3) (hq : Proper y0 y1 y2 y3 q0 q1 q2 q3) :
    Nms.over (F := Ideal) x0 x1 x2 x3 y0 y1 y2 y3 = 1#1 ↔ Test x0 x1 x2 x3 y0 y1 y2 y3 :=
  (over_iff hp hq).trans (test_iff hp hq).symm

end Cert.Proof.Iou
end
-- ==== Proof.Boxes.lean ====
/- What the precondition says of the boxes: real coordinates above the fill value, some width, and an area above the small term. -/
module

public import proofs.«01_k».proof.Pre_proper_boxes
public import proofs.«01_k».proof.Proof.KerIn
public import proofs.«01_k».proof.Proof.Iou

@[expose] public section

noncomputable section

namespace Cert.Proof.Boxes

open Idealize.ShloMosaic
open Cert.KernelIdeal (S20000 S20000x4)
open Cert.KernelIdeal.Gen
open Cert.Proof.Consts Cert.Proof.Iou

/-- Number `k` of box `n`. -/
abbrev cell (n : S20000.Idx) (k : Fin 4) : S20000x4.Idx := ValueIdx.ix2 (⟨(n 0).val, (n 0).isLt⟩ : Fin 20000) k

theorem ofBool_one {P : Prop} [Decidable P] (h : BitVec.ofBool (decide P) = 1#1) : P := by
  by_contra hn
  rw [decide_eq_false hn] at h
  exact absurd h (by decide)

theorem and_one {x y : BitVec 1} (h : x &&& y = 1#1) : x = 1#1 ∧ y = 1#1 := by
  revert x y; decide

/-- A number between the fill value and plus infinity is real. -/
theorem real_of {x : EReal} (h : N ≤ x) (h' : x < ⊤) : ∃ r : ℝ, x = r := by
  have hb : x ≠ ⊥ := fun e => by
    rw [e, N_eq] at h
    exact absurd h (not_le.2 (EReal.bot_lt_coe _))
  exact ⟨x.toReal, (EReal.coe_toReal h'.ne hb).symm⟩

section
variable [Cert.Pre_proper_boxes.Facts] {B : FVec Ideal S20000x4 .f32} {s : FVec Ideal S20000 .f32}
  (h : (Cert.Pre_proper_boxes.fn (F := Ideal) B s).1 = (fun _ => 1#1) ∧ (Cert.Pre_proper_boxes.fn (F := Ideal) B s).2 = (fun _ => 1#1))
include h

theorem range (n : S20000.Idx) (k : Fin 4) : N ≤ (B (cell n k) : EReal) ∧ (B (cell n k) : EReal) < ⊤ := by
  have h1 := congrFun h.1 (cell n k)
  change BitVec.ofBool (decide (N ≤ (B (cell n k) : EReal))) &&& BitVec.ofBool (decide ((B (cell n k) : EReal) < Ideal.ofBits .f32 0x7F800000#32)) = 1#1 at h1
  rw [top_eq] at h1
  exact ⟨ofBool_one (and_one h1).1, ofBool_one (and_one h1).2⟩

theorem size (n : S20000.Idx) : (0 : EReal) < B (cell n 2) - B (cell n 0) ∧ eps < ((B (cell n 2) - B (cell n 0)) * (B (cell n 3) - B (cell n 1)) : EReal) := by
  have h1 := congrFun h.2 n
  change BitVec.ofBool (decide (Ideal.ofBits .f32 0x00000000#32 < (Nms.columnOf B 2 slices_S20000x4_S20000x1_0_2 n : EReal) - Nms.columnOf B 0 slices_S20000x4_S20000x1_0_0 n))
    &&& BitVec.ofBool (decide (eps < ((Nms.columnOf B 2 slices_S20000x4_S20000x1_0_2 n : EReal) - Nms.columnOf B 0 slices_S20000x4_S20000x1_0_0 n)
      * ((Nms.columnOf B 3 slices_S20000x4_S20000x1_0_3 n : EReal) - Nms.columnOf B 1 slices_S20000x4_S20000x1_0_1 n))) = 1#1 at h1
  rw [Nms.columnOf_apply, Nms.columnOf_apply, Nms.columnOf_apply, Nms.columnOf_apply, Ideal.ofBits_zero_f32] at h1
  exact ⟨ofBool_one (and_one h1).1, ofBool_one (and_one h1).2⟩

/-- Every box is proper. -/
theorem proper (n : S20000.Idx) : ∃ r0 r1 r2 r3 : ℝ, Proper (B (cell n 0)) (B (cell n 1)) (B (cell n 2)) (B (cell n 3)) r0 r1 r2 r3 := by
  obtain ⟨r0, e0⟩ := real_of (range h n 0).1 (range h n 0).2
  obtain ⟨r1, e1⟩ := real_of (range h n 1).1 (range h n 1).2
  obtain ⟨r2, e2⟩ := real_of (range h n 2).1 (range h n 2).2
  obtain ⟨r3, e3⟩ := real_of (range h n 3).1 (range h n 3).2
  have hs := size h n
  rw [e0, e1, e2, e3, eps_eq] at hs
  simp only [← EReal.coe_sub, ← EReal.coe_mul, ← EReal.coe_zero, EReal.coe_lt_coe_iff] at hs
  exact ⟨r0, r1, r2, r3, e0, e1, e2, e3, sub_pos.1 hs.1, hs.2⟩
end

end Cert.Proof.Boxes
end
end
-- ==== Proof.Match.lean ====
/- The kernel's trips over the padded planes follow the steps of a selection over the boxes. -/
module

public import proofs.«01_k».proof.Proof.KerStep
public import proofs.«01_k».proof.Proof.Body

@[expose] public section

noncomputable section

namespace Cert.Proof.Nms

open Cert.KernelIdeal Cert.KernelIdeal.Gen
open Idealize.ShloMosaic
open Cert.Proof.Consts Cert.Proof.Select

section
variable {X0 X1 X2 X3 S : Plane Ideal} {κ : Type} {num' : κ → ℕ} {e : κ → Place} {over' : κ → κ → Prop} {M : ℕ → κ → EReal} {os : ℕ → Option κ}
  (hX : ∀ q, N ≤ X0 q ∧ N ≤ X1 q ∧ N ≤ X2 q ∧ N ≤ X3 q) (hself : ∀ q, Bar < S q → Ov X0 X1 X2 X3 q q)
  (he : ∀ n, num (e n) = num' n) (hover : ∀ n k, Ov X0 X1 X2 X3 (e n) (e k) ↔ over' n k)
  (hs : ∀ k, Step (α := EReal) num' Bar N over' (M k) (M (k + 1)) (os k))
include hX hself he hover hs

/-- One trip of the kernel is the next two steps: its rows hold their picks, and the live scores still agree. -/
theorem trip_match (k : ℕ) (h : Agree (α := EReal) e Bar (iter X0 X1 X2 X3 S k).live (M (2 * k))) :
    (iter X0 X1 X2 X3 S k).row0 = rowAt X0 X1 X2 X3 S ((os (2 * k)).map e)
      ∧ (iter X0 X1 X2 X3 S k).row1 X0 X1 X2 X3 (areas X0 X1 X2 X3) numbers = rowAt X0 X1 X2 X3 S ((os (2 * k + 1)).map e)
      ∧ Agree (α := EReal) e Bar (iter X0 X1 X2 X3 S (k + 1)).live (M (2 * (k + 1))) := by
  obtain ⟨L1, o, o', s1, s2, r0, r1, -⟩ := trip_steps hX hself (iter_inv hX hself k)
  obtain ⟨e1, a1⟩ := Agree.step num_injective he N_le_Bar hover h s1 (hs (2 * k))
  obtain ⟨e2, a2⟩ := Agree.step num_injective he N_le_Bar hover a1 s2 (hs (2 * k + 1))
  exact ⟨e1 ▸ r0, e2 ▸ r1, a2⟩

/-- Before every trip the live scores agree. -/
theorem agree_iter (h0 : Agree (α := EReal) e Bar S (M 0)) : ∀ k, Agree (α := EReal) e Bar (iter X0 X1 X2 X3 S k).live (M (2 * k))
  | 0 => by
    have : (iter X0 X1 X2 X3 S 0).live = S := by
      show (init X0 X1 X2 X3 S).live = S
      unfold init; simp only [same_self]
    rw [this]; exact h0
  | k + 1 => (trip_match hX hself he hover hs k (agree_iter h0 k)).2.2

/-- THE ROWS. Row `r` holds the pick of step `r`. -/
theorem outRow_match (h0 : Agree (α := EReal) e Bar S (M 0)) (r : ℕ) : outRow X0 X1 X2 X3 S r = rowAt X0 X1 X2 X3 S ((os r).map e) := by
  have h := trip_match hX hself he hover hs (r / 2) (agree_iter hX hself he hover hs h0 (r / 2))
  unfold outRow
  split
  · have e2 : 2 * (r / 2) = r := by omega
    rw [e2] at h; exact h.1
  · have e2 : 2 * (r / 2) + 1 = r := by omega
    rw [e2] at h; exact h.2.1
end

end Cert.Proof.Nms
end
end
-- ==== Proof.RefReads.lean ====
/- What one trip of the reference's loop leaves in the buffers that it carries, as functions of what it found there. -/
module

public import proofs.«01_k».proof.Proof.RefRun
public import Idealize.ShloMosaic.Lib.StableHlo.RunClose

@[expose] public section

noncomputable section

namespace Cert.Proof.Ref

open Cert.ReferenceIdeal Cert.ReferenceIdeal.Gen
open Idealize.ShloMosaic Idealize.ShloMosaic.TcCoe Idealize.ShloMosaic.Tactic
open Idealize.ShloMosaic.StableHlo (after after_unwritten)

variable {F : FTy → Type} [FloatOps F]

/-! ## One trip as functions -/

/-- The index of the greatest live score. -/
def best (L : FVec F S20000 .f32) : IVec S_ 32 := fun j =>
  (Host.argReduce reducer_argmax_f32_i32 L (iotaInDim S20000 32 0) (constant S_ .f32 0xFF800000#32) (constantI S_ 32 0#32) reducesTo_S20000_S_d0 h_S_ j).2
/-- An index counted from the end if it is negative. -/
def wrap (i : IVec S_ 32) : IVec S_ 32 := select (cmpi .slt i (constantI S_ 32 0#32)) (addi i (constantI S_ 32 20000#32)) i
/-- The score at an index. -/
def scoreAt (L : FVec F S20000 .f32) (i : IVec S_ 32) : FVec F S_ .f32 :=
  shapeCast S_ (Host.dynamicSlice S1 L (fun _ => (wrap i (Shape.Idx.first h_S_)).toInt) sliceFits_S20000_S1) shapeCasts_S1_S_
/-- Whether the score at an index is live. -/
def isLive (neg : FVec F S_ .f32) (L : FVec F S20000 .f32) (i : IVec S_ 32) : IVec S_ 1 :=
  cmpf .ogt (scoreAt L i) (mulf neg (constant S_ .f32 0x3F000000#32))
/-- The box at an index. -/
def boxAt (B : FVec F S20000x4 .f32) (i : IVec S_ 32) : FVec F S4 .f32 :=
  shapeCast S4 (Host.dynamicSlice S1x4 B (fun k => ((![wrap i, select (cmpi .slt (constantI S_ 32 0#32) (constantI S_ 32 0#32)) (addi (constantI S_ 32 0#32) (constantI S_ 32 4#32)) (constantI S_ 32 0#32)] : Fin 2 → IVec S_ 32) k (Shape.Idx.first h_S_)).toInt) sliceFits_S20000x4_S1x4) shapeCasts_S1x4_S4
/-- A box's four numbers. -/
def corner0 (b : FVec F S4 .f32) : FVec F S_ .f32 := shapeCast S_ (extractStridedSlice S1 ![0] b slices_S4_S1_0) shapeCasts_S1_S_
def corner1 (b : FVec F S4 .f32) : FVec F S_ .f32 := shapeCast S_ (extractStridedSlice S1 ![1] b slices_S4_S1_1) shapeCasts_S1_S_
def corner2 (b : FVec F S4 .f32) : FVec F S_ .f32 := shapeCast S_ (extractStridedSlice S1 ![2] b slices_S4_S1_2) shapeCasts_S1_S_
def corner3 (b : FVec F S4 .f32) : FVec F S_ .f32 := shapeCast S_ (extractStridedSlice S1 ![3] b slices_S4_S1_3) shapeCasts_S1_S_
/-- The columns of the boxes. -/
def column0 (B : FVec F S20000x4 .f32) : FVec F S20000 .f32 := shapeCast S20000 (extractStridedSlice S20000x1 ![0, 0] B slices_S20000x4_S20000x1_0_0) shapeCasts_S20000x1_S20000
def column1 (B : FVec F S20000x4 .f32) : FVec F S20000 .f32 := shapeCast S20000 (extractStridedSlice S20000x1 ![0, 1] B slices_S20000x4_S20000x1_0_1) shapeCasts_S20000x1_S20000
def column2 (B : FVec F S20000x4 .f32) : FVec F S20000 .f32 := shapeCast S20000 (extractStridedSlice S20000x1 ![0, 2] B slices_S20000x4_S20000x1_0_2) shapeCasts_S20000x1_S20000
def column3 (B : FVec F S20000x4 .f32) : FVec F S20000 .f32 := shapeCast S20000 (extractStridedSlice S20000x1 ![0, 3] B slices_S20000x4_S20000x1_0_3) shapeCasts_S20000x1_S20000
/-- A number for every box. -/
def every (x : FVec F S_ .f32) : FVec F S20000 .f32 := broadcastInDim S20000 ![] bcast_S_S20000 x
/-- The intersection's width and height before they are clipped. -/
def width (B : FVec F S20000x4 .f32) (b : FVec F S4 .f32) : FVec F S20000 .f32 :=
  subf (minimumf (every (corner2 b)) (column2 B)) (maximumf (every (corner0 b)) (column0 B))
def height (B : FVec F S20000x4 .f32) (b : FVec F S4 .f32) : FVec F S20000 .f32 :=
  subf (minimumf (every (corner3 b)) (column3 B)) (maximumf (every (corner1 b)) (column1 B))
/-- The intersection's area. -/
def meet (B : FVec F S20000x4 .f32) (b : FVec F S4 .f32) : FVec F S20000 .f32 :=
  mulf (maximumf (every (constant S_ .f32 0x00000000#32)) (width B b)) (maximumf (every (constant S_ .f32 0x00000000#32)) (height B b))
/-- Where the quotient of an intersection and a union is above a half. -/
def quot (B : FVec F S20000x4 .f32) (b : FVec F S4 .f32) (w : FVec F S20000 .f32) : IVec S20000 1 :=
  cmpf .ogt
    (Host.divf w
      (addf
        (subf
          (addf (every (mulf (subf (corner2 b) (corner0 b)) (subf (corner3 b) (corner1 b))))
            (mulf (subf (column2 B) (column0 B)) (subf (column3 B) (column1 B))))
          w)
        (every (constant S_ .f32 0x3089705F#32))))
    (every (constant S_ .f32 0x3F000000#32))
/-- The live scores after a trip that picks index `i`. -/
def liveNext (neg : FVec F S_ .f32) (B : FVec F S20000x4 .f32) (L : FVec F S20000 .f32) (i : IVec S_ 32) : FVec F S20000 .f32 :=
  Host.scatter scatter_S20000_S1_S__n_0_0_0 (fun _ b => b)
    (select (quot B (boxAt B i) (meet B (boxAt B i))) (every neg) L) (broadcastInDim S1 ![] bcast_S_S1 (wrap i)) neg
/-- A row recorded at the counter. -/
def record {α : Type} (x : S300.Idx → α) (v : S_.Idx → α) (k : IVec S_ 32) : S300.Idx → α :=
  Host.dynamicUpdateSlice x (broadcastInDim S1 ![] bcast_S_S1 v) (fun _ => (k (Shape.Idx.first h_S_)).toInt) updateFits_S300_S1

/-! ## The stretches of a trip -/

section
variable (V : Valuation τ sig (Elt F))

theorem read0_v24 : after ops0 V (Proc.devRef .tc main_while0b_v24) = best (V (Proc.devRef .tc main_v2_3)) := by
  after_reads_simp
  rfl

theorem upto1_v27 : StableHlo.upto ops1 V 5 (Proc.devRef .tc main_while0b_v27) = wrap (V (Proc.devRef .tc main_while0b_v24)) := by
  after_reads_simp
  rfl

theorem upto1_v34 : StableHlo.upto ops1 V 23 (Proc.devRef .tc main_while0b_v34) = wrap (V (Proc.devRef .tc main_while0b_v24)) := by
  after_reads_simp
  rfl

theorem upto1_v37 : StableHlo.upto ops1 V 23 (Proc.devRef .tc main_while0b_v37)
    = select (cmpi .slt (constantI S_ 32 0#32) (constantI S_ 32 0#32)) (addi (constantI S_ 32 0#32) (constantI S_ 32 4#32)) (constantI S_ 32 0#32) := by
  after_reads_simp

theorem read1_v31 : after ops1 V (Proc.devRef .tc main_while0b_v31)
    = isLive (V (Proc.devRef .tc main_v2_0)) (V (Proc.devRef .tc main_v2_3)) (V (Proc.devRef .tc main_while0b_v24)) := by
  after_reads_simp
  refine congrArg (fun s : Fin 1 → Int => cmpf .ogt (shapeCast S_ (Host.dynamicSlice S1 (V (Proc.devRef .tc main_v2_3) : FVec F S20000 .f32) s sliceFits_S20000_S1) shapeCasts_S1_S_) (mulf (V (Proc.devRef .tc main_v2_0)) (constant S_ .f32 0x3F000000#32))) (funext fun k => ?_)
  match k with
  | 0 => exact congrArg (fun i : IVec S_ 32 => (i (Shape.Idx.first h_S_)).toInt) (upto1_v27 V)

theorem read1_v39 : after ops1 V (Proc.devRef .tc main_while0b_v39)
    = boxAt (V (Proc.devRef .tc main_v2_1)) (V (Proc.devRef .tc main_while0b_v24)) := by
  after_reads_simp
  refine congrArg (fun s : Fin 2 → Int => shapeCast S4 (Host.dynamicSlice S1x4 (V (Proc.devRef .tc main_v2_1) : FVec F S20000x4 .f32) s sliceFits_S20000x4_S1x4) shapeCasts_S1x4_S4) (funext fun k => ?_)
  match k with
  | 0 => exact congrArg (fun i : IVec S_ 32 => (i (Shape.Idx.first h_S_)).toInt) (upto1_v34 V)
  | 1 => exact congrArg (fun i : IVec S_ 32 => (i (Shape.Idx.first h_S_)).toInt) (upto1_v37 V)

theorem upto1_v39 : StableHlo.upto ops1 V 25 (Proc.devRef .tc main_while0b_v39)
    = boxAt (V (Proc.devRef .tc main_v2_1)) (V (Proc.devRef .tc main_while0b_v24)) := by
  after_reads_simp
  refine congrArg (fun s : Fin 2 → Int => shapeCast S4 (Host.dynamicSlice S1x4 (V (Proc.devRef .tc main_v2_1) : FVec F S20000x4 .f32) s sliceFits_S20000x4_S1x4) shapeCasts_S1x4_S4) (funext fun k => ?_)
  match k with
  | 0 => exact congrArg (fun i : IVec S_ 32 => (i (Shape.Idx.first h_S_)).toInt) (upto1_v34 V)
  | 1 => exact congrArg (fun i : IVec S_ 32 => (i (Shape.Idx.first h_S_)).toInt) (upto1_v37 V)

/-- The first stretch from the box on. -/
theorem split1 : after ops1 V = after (ops1.drop 25) (StableHlo.upto ops1 V 25) := by
  unfold StableHlo.upto
  rw [← StableHlo.after_append, List.take_append_drop]

theorem upto1_v2_1 : StableHlo.upto ops1 V 25 (Proc.devRef .tc main_v2_1) = V (Proc.devRef .tc main_v2_1) := by
  after_reads_simp

theorem read1_v64 : after ops1 V (Proc.devRef .tc main_while0b_v64)
    = width (V (Proc.devRef .tc main_v2_1)) (boxAt (V (Proc.devRef .tc main_v2_1)) (V (Proc.devRef .tc main_while0b_v24))) := by
  rw [split1, ← upto1_v39 V, ← upto1_v2_1 V]
  generalize StableHlo.upto ops1 V 25 = W
  after_reads_simp
  rfl

theorem read1_v51 : after ops1 V (Proc.devRef .tc main_while0b_v51)
    = maximumf (every (corner1 (boxAt (V (Proc.devRef .tc main_v2_1)) (V (Proc.devRef .tc main_while0b_v24))))) (column1 (V (Proc.devRef .tc main_v2_1))) := by
  rw [split1, ← upto1_v39 V, ← upto1_v2_1 V]
  generalize StableHlo.upto ops1 V 25 = W
  after_reads_simp
  rfl

theorem read1_v63 : after ops1 V (Proc.devRef .tc main_while0b_v63)
    = minimumf (every (corner3 (boxAt (V (Proc.devRef .tc main_v2_1)) (V (Proc.devRef .tc main_while0b_v24))))) (column3 (V (Proc.devRef .tc main_v2_1))) := by
  rw [split1, ← upto1_v39 V, ← upto1_v2_1 V]
  generalize StableHlo.upto ops1 V 25 = W
  after_reads_simp
  rfl

theorem read1_zero : after ops1 V (Proc.devRef .tc main_while0b_cst_21) = constant S_ .f32 0x00000000#32 := by
  after_reads_simp

theorem read2 : after ops2 V (Proc.devRef .tc main_while0b_v65)
    = maximumf (every (V (Proc.devRef .tc main_while0b_cst_21))) (V (Proc.devRef .tc main_while0b_v64)) := by
  after_reads_simp
  rfl

theorem read3_v66 : after ops3 V (Proc.devRef .tc main_while0b_v66)
    = subf (V (Proc.devRef .tc main_while0b_v63)) (V (Proc.devRef .tc main_while0b_v51)) := by
  after_reads_simp

theorem read3_zero : after ops3 V (Proc.devRef .tc main_while0b_cst_22) = constant S_ .f32 0x00000000#32 := by
  after_reads_simp

theorem read4 : after ops4 V (Proc.devRef .tc main_while0b_v67)
    = maximumf (every (V (Proc.devRef .tc main_while0b_cst_22))) (V (Proc.devRef .tc main_while0b_v66)) := by
  after_reads_simp
  rfl

theorem read5_v68 : after ops5 V (Proc.devRef .tc main_while0b_v68)
    = mulf (V (Proc.devRef .tc main_while0b_v65)) (V (Proc.devRef .tc main_while0b_v67)) := by
  after_reads_simp

theorem read56 : after ops6 (after ops5 V) (Proc.devRef .tc main_while0b_v98)
    = quot (V (Proc.devRef .tc main_v2_1)) (V (Proc.devRef .tc main_while0b_v39)) (mulf (V (Proc.devRef .tc main_while0b_v65)) (V (Proc.devRef .tc main_while0b_v67))) := by
  after_reads_simp
  rfl

theorem read7 : after ops7 V (Proc.devRef .tc main_while0b_v99)
    = select (V (Proc.devRef .tc main_while0b_v98)) (every (V (Proc.devRef .tc main_v2_0))) (V (Proc.devRef .tc main_v2_3)) := by
  after_reads_simp
  rfl

theorem read8 : after ops8 V (Proc.devRef .tc main_while0b_v104)
    = Host.scatter scatter_S20000_S1_S__n_0_0_0 (fun _ b => b) (V (Proc.devRef .tc main_while0b_v99)) (broadcastInDim S1 ![] bcast_S_S1 (wrap (V (Proc.devRef .tc main_while0b_v24)))) (V (Proc.devRef .tc main_v2_0)) := by
  after_reads_simp
  rfl

theorem upto9_ctr : StableHlo.upto ops9 V 1 (Proc.devRef .tc main_v2_2) = V (Proc.devRef .tc main_v2_2) := by
  after_reads_simp

theorem read9 : after ops9 V (Proc.devRef .tc main_while0b_v105)
    = record (V (Proc.devRef .tc main_v2_4)) (V (Proc.devRef .tc main_while0b_v24)) (V (Proc.devRef .tc main_v2_2)) := by
  after_reads_simp
  refine congrArg (fun s : Fin 1 → Int => Host.dynamicUpdateSlice (V (Proc.devRef .tc main_v2_4) : IVec S300 32) (broadcastInDim S1 ![] bcast_S_S1 (V (Proc.devRef .tc main_while0b_v24))) s updateFits_S300_S1) (funext fun k => ?_)
  match k with
  | 0 => exact congrArg (fun i : IVec S_ 32 => (i (Shape.Idx.first h_S_)).toInt) (upto9_ctr V)

theorem upto10_ctr : StableHlo.upto ops10 V 1 (Proc.devRef .tc main_v2_2) = V (Proc.devRef .tc main_v2_2) := by
  after_reads_simp

theorem read10 : after ops10 V (Proc.devRef .tc main_while0b_v106)
    = record (V (Proc.devRef .tc main_v2_5)) (V (Proc.devRef .tc main_while0b_v31)) (V (Proc.devRef .tc main_v2_2)) := by
  after_reads_simp
  refine congrArg (fun s : Fin 1 → Int => Host.dynamicUpdateSlice (V (Proc.devRef .tc main_v2_5) : IVec S300 1) (broadcastInDim S1 ![] bcast_S_S1 (V (Proc.devRef .tc main_while0b_v31))) s updateFits_S300_S1) (funext fun k => ?_)
  match k with
  | 0 => exact congrArg (fun i : IVec S_ 32 => (i (Shape.Idx.first h_S_)).toInt) (upto10_ctr V)

theorem read11_v2_3 : after ops11 V (Proc.devRef .tc main_v2_3) = V (Proc.devRef .tc main_while0b_v104) := by
  after_reads_simp
  rfl
theorem read11_v2_4 : after ops11 V (Proc.devRef .tc main_v2_4) = V (Proc.devRef .tc main_while0b_v105) := by
  after_reads_simp
  rfl
theorem read11_v2_5 : after ops11 V (Proc.devRef .tc main_v2_5) = V (Proc.devRef .tc main_while0b_v106) := by
  after_reads_simp
  rfl

/-! ## What a stretch leaves -/

/-- What this stretch writes. -/
abbrev W0 : List (Ref sig .tc) := [main_while0b_call0_v0, main_while0b_call0_cst, main_while0b_call0_c, main_while0b_call0_v1_0, main_while0b_v24]
theorem keep0 {r : Ref sig .tc} (hr : r ∉ W0) : after ops0 V (Proc.devRef .tc r) = V (Proc.devRef .tc r) := after_unwritten W0 rfl hr V

/-- What this stretch writes. -/
abbrev W1 : List (Ref sig .tc) := [main_while0b_c_11, main_while0b_v25, main_while0b_c_12, main_while0b_v26, main_while0b_v27, main_while0b_v28, main_while0b_v29, main_while0b_cst_13, main_while0b_v30, main_while0b_v31, main_while0b_c_14, main_while0b_v32, main_while0b_c_15, main_while0b_v33, main_while0b_v34, main_while0b_c_16, main_while0b_c_17, main_while0b_v35, main_while0b_c_18, main_while0b_c_19, main_while0b_v36, main_while0b_c_20, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_v64, main_while0b_cst_21]
theorem keep1 {r : Ref sig .tc} (hr : r ∉ W1) : after ops1 V (Proc.devRef .tc r) = V (Proc.devRef .tc r) := after_unwritten W1 rfl hr V

/-- What this stretch writes. -/
abbrev W2 : List (Ref sig .tc) := [main_while0b_call1_v0, main_while0b_call1_v1, main_while0b_v65]
theorem keep2 {r : Ref sig .tc} (hr : r ∉ W2) : after ops2 V (Proc.devRef .tc r) = V (Proc.devRef .tc r) := after_unwritten W2 rfl hr V

/-- What this stretch writes. -/
abbrev W3 : List (Ref sig .tc) := [main_while0b_v66, main_while0b_cst_22]
theorem keep3 {r : Ref sig .tc} (hr : r ∉ W3) : after ops3 V (Proc.devRef .tc r) = V (Proc.devRef .tc r) := after_unwritten W3 rfl hr V

/-- What this stretch writes. -/
abbrev W4 : List (Ref sig .tc) := [main_while0b_call2_v0, main_while0b_call2_v1, main_while0b_v67]
theorem keep4 {r : Ref sig .tc} (hr : r ∉ W4) : after ops4 V (Proc.devRef .tc r) = V (Proc.devRef .tc r) := after_unwritten W4 rfl hr V

/-- What this stretch writes. -/
abbrev W5 : List (Ref sig .tc) := [main_while0b_v68, main_while0b_v69, main_while0b_v70, main_while0b_v71]
theorem keep5 {r : Ref sig .tc} (hr : r ∉ W5) : after ops5 V (Proc.devRef .tc r) = V (Proc.devRef .tc r) := after_unwritten W5 rfl hr V

/-- What this stretch writes. -/
abbrev W6 : List (Ref sig .tc) := [main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_v92, main_while0b_v93, main_while0b_cst_23, main_while0b_v94, main_while0b_v95, main_while0b_v96, main_while0b_cst_24, main_while0b_v97, main_while0b_v98]
theorem keep6 {r : Ref sig .tc} (hr : r ∉ W6) : after ops6 V (Proc.devRef .tc r) = V (Proc.devRef .tc r) := after_unwritten W6 rfl hr V

/-- What this stretch writes. -/
abbrev W7 : List (Ref sig .tc) := [main_while0b_call3_v0, main_while0b_v99]
theorem keep7 {r : Ref sig .tc} (hr : r ∉ W7) : after ops7 V (Proc.devRef .tc r) = V (Proc.devRef .tc r) := after_unwritten W7 rfl hr V

/-- What this stretch writes. -/
abbrev W8 : List (Ref sig .tc) := [main_while0b_c_25, main_while0b_v100, main_while0b_c_26, main_while0b_v101, main_while0b_v102, main_while0b_v103, main_while0b_v104]
theorem keep8 {r : Ref sig .tc} (hr : r ∉ W8) : after ops8 V (Proc.devRef .tc r) = V (Proc.devRef .tc r) := after_unwritten W8 rfl hr V

/-- What this stretch writes. -/
abbrev W9 : List (Ref sig .tc) := [main_while0b_call4_v0, main_while0b_v105]
theorem keep9 {r : Ref sig .tc} (hr : r ∉ W9) : after ops9 V (Proc.devRef .tc r) = V (Proc.devRef .tc r) := after_unwritten W9 rfl hr V

/-- What this stretch writes. -/
abbrev W10 : List (Ref sig .tc) := [main_while0b_call5_v0, main_while0b_v106]
theorem keep10 {r : Ref sig .tc} (hr : r ∉ W10) : after ops10 V (Proc.devRef .tc r) = V (Proc.devRef .tc r) := after_unwritten W10 rfl hr V

/-- What this stretch writes. -/
abbrev W11 : List (Ref sig .tc) := [main_while0b_c_27, main_while0b_v107, main_v2_2, main_v2_3, main_v2_4, main_v2_5]
theorem keep11 {r : Ref sig .tc} (hr : r ∉ W11) : after ops11 V (Proc.devRef .tc r) = V (Proc.devRef .tc r) := after_unwritten W11 rfl hr V

theorem keepCond {r : Ref sig .tc} (hr : r ∉ [main_while0c_c_11, main_while0c_v24]) : after condOps V (Proc.devRef .tc r) = V (Proc.devRef .tc r) :=
  after_unwritten [main_while0c_c_11, main_while0c_v24] rfl hr V

/-! ## One trip -/

/-- A trip leaves the fill value. -/
theorem trip_neg : StableHlo.afterL (bodyL (F := F)) (after condOps V) (Proc.devRef .tc main_v2_0) = V (Proc.devRef .tc main_v2_0) := by
  simp only [bodyL, StableHlo.afterL_cons, StableHlo.afterL_nil]
  rw [keep11 _ (by decide), keep10 _ (by decide), keep9 _ (by decide), keep8 _ (by decide), keep7 _ (by decide), keep6 _ (by decide), keep5 _ (by decide), keep4 _ (by decide), keep3 _ (by decide), keep2 _ (by decide), keep1 _ (by decide), keep0 _ (by decide), keepCond _ (by decide)]

/-- A trip leaves the boxes that it carries. -/
theorem trip_boxes : StableHlo.afterL (bodyL (F := F)) (after condOps V) (Proc.devRef .tc main_v2_1) = V (Proc.devRef .tc main_v2_1) := by
  simp only [bodyL, StableHlo.afterL_cons, StableHlo.afterL_nil]
  rw [keep11 _ (by decide), keep10 _ (by decide), keep9 _ (by decide), keep8 _ (by decide), keep7 _ (by decide), keep6 _ (by decide), keep5 _ (by decide), keep4 _ (by decide), keep3 _ (by decide), keep2 _ (by decide), keep1 _ (by decide), keep0 _ (by decide), keepCond _ (by decide)]

/-- A trip fills the live scores that its pick overlaps, and the pick's. -/
theorem trip_live : StableHlo.afterL (bodyL (F := F)) (after condOps V) (Proc.devRef .tc main_v2_3)
    = liveNext (V (Proc.devRef .tc main_v2_0)) (V (Proc.devRef .tc main_v2_1)) (V (Proc.devRef .tc main_v2_3)) (best (V (Proc.devRef .tc main_v2_3))) := by
  simp only [bodyL, StableHlo.afterL_cons, StableHlo.afterL_nil]
  rw [read11_v2_3, keep10 (r := main_while0b_v104) _ (by decide),
    keep9 (r := main_while0b_v104) _ (by decide), read8, read7,
    keep7 (r := main_while0b_v24) _ (by decide), keep7 (r := main_v2_0) _ (by decide), read56,
    keep6 (r := main_v2_3) _ (by decide), keep6 (r := main_v2_0) _ (by decide), keep6 (r := main_while0b_v24) _ (by decide),
    keep5 (r := main_v2_3) _ (by decide), keep5 (r := main_v2_0) _ (by decide), keep5 (r := main_while0b_v24) _ (by decide),
    keep4 (r := main_v2_1) _ (by decide), keep4 (r := main_while0b_v39) _ (by decide), keep4 (r := main_while0b_v65) _ (by decide), keep4 (r := main_v2_3) _ (by decide), keep4 (r := main_v2_0) _ (by decide), keep4 (r := main_while0b_v24) _ (by decide), read4, read3_v66, read3_zero,
    keep3 (r := main_v2_1) _ (by decide), keep3 (r := main_while0b_v39) _ (by decide), keep3 (r := main_while0b_v65) _ (by decide), keep3 (r := main_v2_3) _ (by decide), keep3 (r := main_v2_0) _ (by decide), keep3 (r := main_while0b_v24) _ (by decide),
    keep2 (r := main_while0b_v63) _ (by decide), keep2 (r := main_while0b_v51) _ (by decide), keep2 (r := main_v2_1) _ (by decide), keep2 (r := main_while0b_v39) _ (by decide), keep2 (r := main_v2_3) _ (by decide), keep2 (r := main_v2_0) _ (by decide), keep2 (r := main_while0b_v24) _ (by decide), read2,
    read1_v39, read1_v64, read1_v51, read1_v63, read1_zero, keep1 (r := main_v2_1) _ (by decide), keep1 (r := main_v2_3) _ (by decide), keep1 (r := main_v2_0) _ (by decide), keep1 (r := main_while0b_v24) _ (by decide), read0_v24,
    keep0 (r := main_v2_1) _ (by decide), keep0 (r := main_v2_3) _ (by decide), keep0 (r := main_v2_0) _ (by decide),
    keepCond (r := main_v2_1) _ (by decide), keepCond (r := main_v2_3) _ (by decide), keepCond (r := main_v2_0) _ (by decide)]
  rfl

/-- A trip records its pick. -/
theorem trip_picks : StableHlo.afterL (bodyL (F := F)) (after condOps V) (Proc.devRef .tc main_v2_4)
    = record (V (Proc.devRef .tc main_v2_4)) (best (V (Proc.devRef .tc main_v2_3))) (V (Proc.devRef .tc main_v2_2)) := by
  simp only [bodyL, StableHlo.afterL_cons, StableHlo.afterL_nil]
  rw [read11_v2_4, keep10 (r := main_while0b_v105) _ (by decide), read9,
    keep8 (r := main_v2_4) _ (by decide), keep8 (r := main_while0b_v24) _ (by decide), keep8 (r := main_v2_2) _ (by decide),
    keep7 (r := main_v2_4) _ (by decide), keep7 (r := main_while0b_v24) _ (by decide), keep7 (r := main_v2_2) _ (by decide),
    keep6 (r := main_v2_4) _ (by decide), keep6 (r := main_while0b_v24) _ (by decide), keep6 (r := main_v2_2) _ (by decide),
    keep5 (r := main_v2_4) _ (by decide), keep5 (r := main_while0b_v24) _ (by decide), keep5 (r := main_v2_2) _ (by decide),
    keep4 (r := main_v2_4) _ (by decide), keep4 (r := main_while0b_v24) _ (by decide), keep4 (r := main_v2_2) _ (by decide),
    keep3 (r := main_v2_4) _ (by decide), keep3 (r := main_while0b_v24) _ (by decide), keep3 (r := main_v2_2) _ (by decide),
    keep2 (r := main_v2_4) _ (by decide), keep2 (r := main_while0b_v24) _ (by decide), keep2 (r := main_v2_2) _ (by decide),
    keep1 (r := main_v2_4) _ (by decide), keep1 (r := main_while0b_v24) _ (by decide), keep1 (r := main_v2_2) _ (by decide),
    read0_v24, keep0 (r := main_v2_4) _ (by decide), keep0 (r := main_v2_2) _ (by decide), keepCond (r := main_v2_4) _ (by decide), keepCond (r := main_v2_2) _ (by decide), keepCond (r := main_v2_3) _ (by decide)]

/-- A trip records whether its pick's score is live. -/
theorem trip_flags : StableHlo.afterL (bodyL (F := F)) (after condOps V) (Proc.devRef .tc main_v2_5)
    = record (V (Proc.devRef .tc main_v2_5)) (isLive (V (Proc.devRef .tc main_v2_0)) (V (Proc.devRef .tc main_v2_3)) (best (V (Proc.devRef .tc main_v2_3)))) (V (Proc.devRef .tc main_v2_2)) := by
  simp only [bodyL, StableHlo.afterL_cons, StableHlo.afterL_nil]
  rw [read11_v2_5, read10, keep9 (r := main_v2_5) _ (by decide), keep9 (r := main_while0b_v31) _ (by decide), keep9 (r := main_v2_2) _ (by decide),
    keep8 (r := main_v2_5) _ (by decide), keep8 (r := main_while0b_v31) _ (by decide), keep8 (r := main_v2_2) _ (by decide),
    keep7 (r := main_v2_5) _ (by decide), keep7 (r := main_while0b_v31) _ (by decide), keep7 (r := main_v2_2) _ (by decide),
    keep6 (r := main_v2_5) _ (by decide), keep6 (r := main_while0b_v31) _ (by decide), keep6 (r := main_v2_2) _ (by decide),
    keep5 (r := main_v2_5) _ (by decide), keep5 (r := main_while0b_v31) _ (by decide), keep5 (r := main_v2_2) _ (by decide),
    keep4 (r := main_v2_5) _ (by decide), keep4 (r := main_while0b_v31) _ (by decide), keep4 (r := main_v2_2) _ (by decide),
    keep3 (r := main_v2_5) _ (by decide), keep3 (r := main_while0b_v31) _ (by decide), keep3 (r := main_v2_2) _ (by decide),
    keep2 (r := main_v2_5) _ (by decide), keep2 (r := main_while0b_v31) _ (by decide), keep2 (r := main_v2_2) _ (by decide),
    read1_v31, keep1 (r := main_v2_5) _ (by decide), keep1 (r := main_v2_2) _ (by decide), read0_v24, keep0 (r := main_v2_5) _ (by decide), keep0 (r := main_v2_2) _ (by decide), keep0 (r := main_v2_0) _ (by decide), keep0 (r := main_v2_3) _ (by decide), keepCond (r := main_v2_5) _ (by decide), keepCond (r := main_v2_2) _ (by decide), keepCond (r := main_v2_3) _ (by decide), keepCond (r := main_v2_0) _ (by decide)]

/-! ## After the loop -/

/-- The picks counted from the start. -/
def wraps (i : IVec S300 32) : IVec S300 32 :=
  select (cmpi .slt i (broadcastInDim S300 ![] bcast_S_S300 (constantI S_ 32 0#32))) (addi i (broadcastInDim S300 ![] bcast_S_S300 (constantI S_ 32 20000#32))) i

/-- The result: the picked boxes and scores times the flags. -/
def result (B : FVec F S20000x4 .f32) (M : FVec F S20000 .f32) (i : IVec S300 32) (f : IVec S300 1) : FVec F S300x5 .f32 :=
  concatenate S300x5 1
    [⟨S300x4, mulf (Host.gather gather_S20000x4_S300x1_S300x4_1_0_n_n_0_1_14 B (broadcastInDim S300x1 ![0] bcast_S300_S300x1_0 (wraps i)))
        (broadcastInDim S300x4 ![0, 1] bcast_S300x1_S300x4_0_1 (broadcastInDim S300x1 ![0] bcast_S300_S300x1_0 (uitofp .f32 f)))⟩,
      ⟨S300x1, broadcastInDim S300x1 ![0] bcast_S300_S300x1_0
        (mulf (Host.gather gather_S20000_S300x1_S300_n_0_n_n_0_1_1 M (broadcastInDim S300x1 ![0] bcast_S300_S300x1_0 (wraps i))) (uitofp .f32 f))⟩]
    concatenates_S300x4_S300x1_S300x5_d1

/-- What the operations after the loop leave at the result. -/
theorem post_result : after postOps (after condOps V) (Proc.devRef .tc main_v23)
    = result (V (Proc.devRef .tc main_arg0)) (V (Proc.devRef .tc main_arg1)) (V (Proc.devRef .tc main_v2_4)) (V (Proc.devRef .tc main_v2_5)) := by
  after_reads_simp
  rfl

/-! ## Before the loop -/

section
variable (m : (ℓ : Loc nD τ sig) → Buf (Elt F) ℓ) (c : Dev nD)

theorem At_zero_neg : At m 0 c (Proc.devRef .tc main_v2_0) = constant S_ .f32 0xF149F2CA#32 := by
  show after (preOps (F := F)) (StableHlo.launchContents m c) (Proc.devRef .tc main_v2_0) = _
  after_reads_simp
  rfl
theorem At_zero_boxes : At m 0 c (Proc.devRef .tc main_v2_1) = m ((c.tc : Thread nD τ).loc main_arg0) := by
  show after (preOps (F := F)) (StableHlo.launchContents m c) (Proc.devRef .tc main_v2_1) = _
  after_reads_simp
  rfl
theorem At_zero_live : At m 0 c (Proc.devRef .tc main_v2_3) = m ((c.tc : Thread nD τ).loc main_arg1) := by
  show after (preOps (F := F)) (StableHlo.launchContents m c) (Proc.devRef .tc main_v2_3) = _
  after_reads_simp
  rfl

end

end
end Cert.Proof.Ref
end
-- ==== Proof.RefPick.lean ====
/- The index that the reference's arg-max gives is the pick: the first place of the greatest score. -/
module

public import proofs.«01_k».proof.Proof.RefReads
public import proofs.«01_k».proof.Proof.Select
public import proofs.«01_k».proof.Proof.Consts
public import Idealize.ShloMosaic.PureOps.Ideal.Laws
public import Idealize.ShloMosaic.PureOps.Reduce
public import Idealize.ShloMosaic.Lib.WordCmp
public import Idealize.ShloMosaic.Lib.DynamicIndex
public import Idealize.ShloMosaic.Lib.SortFacts

@[expose] public section

noncomputable section

namespace Cert.Proof.Ref

open Cert.ReferenceIdeal Cert.ReferenceIdeal.Gen
open Idealize.ShloMosaic
open Cert.Proof.Select (IsPick)

/-- A place's number. -/
def num' (n : S20000.Idx) : ℕ := (n 0).val

theorem num'_lt (n : S20000.Idx) : num' n < 20000 := (n 0).isLt

theorem num'_injective : Function.Injective num' := fun a b h => by
  rw [Shape.Idx.eq_ofFin a, Shape.Idx.eq_ofFin b]
  exact congrArg _ (Fin.ext h)

/-- A place's number as a word. -/
def word (n : S20000.Idx) : BitVec 32 := BitVec.ofNat 32 (num' n)

theorem word_toInt (n : S20000.Idx) : (word n).toInt = num' n :=
  Idealize.ShloMosaic.toInt_ofNat_of_lt (by have := num'_lt n; omega)

/-- The reducer keeps its first pair where that is greater, or equal with the smaller index, and else its second. -/
theorem reducer_eq (a b : EReal × BitVec 32) :
    reducer_argmax_f32_i32 (F := Ideal) a b = if b.1 < a.1 ∨ (a.1 = b.1 ∧ a.2.toInt < b.2.toInt) then a else b := by
  obtain ⟨x, i⟩ := a
  obtain ⟨y, j⟩ := b
  have e1 : (reducer_argmax_f32_i32 (F := Ideal) (x, i) (y, j))
      = (Scalar.select (BitVec.ofBool (decide (y < x)) ||| BitVec.ofBool (decide (x ≠ x))) x y,
         Scalar.select ((BitVec.ofBool (decide (y < x)) ||| BitVec.ofBool (decide (x ≠ x))) ||| (BitVec.ofBool (decide (x = y)) &&& BitVec.ofBool (i.slt j))) i j) := rfl
  rw [e1]
  have hs : i.slt j = decide (i.toInt < j.toInt) := by simp [BitVec.slt]
  rw [hs]
  unfold Scalar.select
  rcases lt_trichotomy y x with h | h | h
  · simp [h, h.ne']
  · subst h
    by_cases h2 : i.toInt < j.toInt <;> simp [h2]
  · simp [h.ne, not_lt.2 h.le]

/-- What the fold knows after the places `P`: its value bounds them, its index is the first of them to hold the value; and it is a
    place's score and number, or the initial pair. -/
structure Upto (L : S20000.Idx → EReal) (P : S20000.Idx → Prop) (v : EReal × BitVec 32) : Prop where
  le : ∀ n, P n → L n ≤ v.1
  first : ∀ n, P n → L n = v.1 → v.2.toInt ≤ num' n
  place : (∃ p, v = (L p, word p)) ∨ v = (⊥, 0#32)

theorem Upto.step {L : S20000.Idx → EReal} {P : S20000.Idx → Prop} {v : EReal × BitVec 32} (h : Upto L P v) (q : S20000.Idx) :
    Upto L (fun n => P n ∨ n = q) (reducer_argmax_f32_i32 (F := Ideal) v (L q, word q)) := by
  rw [reducer_eq]
  split
  · next hv =>
    refine ⟨?_, ?_, h.place⟩
    · rintro n (hn | rfl)
      · exact h.le n hn
      · rcases hv with hv | hv
        · exact hv.le
        · exact hv.1.ge
    · rintro n (hn | rfl) e
      · exact h.first n hn e
      · rcases hv with hv | hv
        · exact absurd e hv.ne
        · have h1 := hv.2
          simp only [word_toInt] at h1
          exact h1.le
  · next hv =>
    rw [not_or, not_and, not_lt, not_lt] at hv
    refine ⟨?_, ?_, .inl ⟨q, rfl⟩⟩
    · rintro n (hn | rfl)
      · exact (h.le n hn).trans hv.1
      · exact le_rfl
    · rintro n (hn | rfl) e
      · have e1 : v.1 = L q := le_antisymm hv.1 ((show L q ≤ L n from e.symm.le).trans (h.le n hn))
        exact (hv.2 e1).trans (h.first n hn (e.trans e1.symm))
      · exact (word_toInt n).le

theorem Upto.fold {L : S20000.Idx → EReal} (l : List S20000.Idx) : ∀ {P : S20000.Idx → Prop} {v : EReal × BitVec 32}, Upto L P v →
    Upto L (fun n => P n ∨ n ∈ l) ((l.map fun n => (L n, word n)).foldl (reducer_argmax_f32_i32 (F := Ideal)) v) := by
  induction l with
  | nil =>
    intro P v h
    refine ⟨fun n hn => h.le n (hn.resolve_right (by simp)), fun n hn => h.first n (hn.resolve_right (by simp)), h.place⟩
  | cons q l ih =>
    intro P v h
    rw [List.map_cons, List.foldl_cons]
    have := ih (h.step q)
    refine ⟨fun n hn => this.le n ?_, fun n hn => this.first n ?_, this.place⟩ <;>
    · rcases hn with hn | hn
      · exact .inl (.inl hn)
      · rcases List.mem_cons.1 hn with hn | hn
        · exact .inl (.inr hn)
        · exact .inr hn

/-- THE ARG-MAX. The index is the number of the pick. -/
theorem best_spec (L : FVec Ideal S20000 .f32) : ∃ p, IsPick num' (α := EReal) L p ∧ best L = fun _ => word p := by
  obtain ⟨v, hb, hv⟩ : ∃ v : EReal × BitVec 32, best L = (fun _ => v.2) ∧ Upto L (fun _ => True) v := by
    have hl : ∀ j : S_.Idx, Host.argReduceFiber L (iotaInDim S20000 32 0) reducesTo_S20000_S_d0 j
        = ((List.finRange S20000.numel).map S20000.rowMajor.symm).map fun n => ((L n : EReal), word n) := fun j => by
      unfold Host.argReduceFiber
      rw [List.filter_eq_self.2 (fun n _ => by
        rw [decide_eq_true_iff]
        exact funext fun a => a.elim0), List.map_map]
      rfl
    refine ⟨((List.finRange S20000.numel).map S20000.rowMajor.symm |>.map fun n => ((L n : EReal), word n)).foldl (reducer_argmax_f32_i32 (F := Ideal)) ((⊥ : EReal), 0#32), ?_, ?_⟩
    · funext j
      unfold best
      rw [Ideal.argReduce_eq_reduce2, Host.reduce2_eq_foldl_fiber, hl j]
      generalize (List.map (fun n => ((L n : EReal), word n)) (List.map S20000.rowMajor.symm (List.finRange S20000.numel))) = l
      have e : ((constant S_ .f32 0xFF800000#32 : FVec Ideal S_ .f32) (Shape.Idx.first h_S_) : EReal) = ⊥ := Consts.bot_eq
      have e' : (constantI S_ 32 0#32) (Shape.Idx.first h_S_) = 0#32 := rfl
      rw [e, e']
    · have := Upto.fold (L := L) ((List.finRange S20000.numel).map S20000.rowMajor.symm) (P := fun _ => False) (v := ((⊥ : EReal), 0#32))
        ⟨fun _ h => h.elim, fun _ h => h.elim, .inr rfl⟩
      have hm : ∀ n : S20000.Idx, n ∈ (List.finRange S20000.numel).map S20000.rowMajor.symm := fun n =>
        List.mem_map.2 ⟨S20000.rowMajor n, List.mem_finRange _, Equiv.symm_apply_apply _ _⟩
      exact ⟨fun n _ => this.le n (.inr (hm n)), fun n _ => this.first n (.inr (hm n)), this.place⟩
  rcases hv.place with ⟨p, rfl⟩ | rfl
  · refine ⟨p, ⟨fun q => hv.le q trivial, fun q hq e => ?_⟩, hb⟩
    have := hv.first q trivial e
    rw [word_toInt] at this
    omega
  · refine ⟨Shape.Idx.ofFin (0 : Fin 20000), ⟨fun q => ?_, fun q hq => ?_⟩, hb⟩
    · exact (hv.le q trivial).trans bot_le
    · exact absurd hq (by unfold num'; simp)

end Cert.Proof.Ref
end
end
-- ==== Proof.RefElem.lean ====
/- The functions of one trip of the reference, read at a place. -/
module

public import proofs.«01_k».proof.Proof.RefPick
public import proofs.«01_k».proof.Proof.Iou
public import Idealize.ShloMosaic.Lib.ValueIdxCore
public import Idealize.ShloMosaic.Lib.Pipeline.Value

@[expose] public section

noncomputable section

namespace Cert.Proof.Ref

open Cert.ReferenceIdeal Cert.ReferenceIdeal.Gen
open Idealize.ShloMosaic Idealize.ShloMosaic.ValueIdx
open Cert.Proof.Select (IsPick Fills Step)
open Cert.Proof.Consts (N Bar)

/-- Number `k` of the box of a place. -/
abbrev cell (n : S20000.Idx) (k : Fin 4) : S20000x4.Idx := ix2 (⟨num' n, num'_lt n⟩ : Fin 20000) k

section Picked
variable (p : S20000.Idx)

/-- A place's number is not negative. -/
theorem wrap_word : wrap (fun _ => word p) = fun _ => word p := by
  funext j
  exact select_slt_zero_of_nonneg _ _ _ j (by show 0 ≤ (word p).toInt; rw [word_toInt]; omega)

/-- The score at a place's number. -/
theorem scoreAt_word (L : FVec Ideal S20000 .f32) : scoreAt L (fun _ => word p) = fun _ => L p := by
  have hoff : S20000.Slices (fun _ => num' p) S1 := ⟨rfl, fun a => by
    match a with
    | 0 => show num' p + 1 ≤ 20000; have := num'_lt p; omega⟩
  unfold scoreAt
  rw [Host.dynamicSlice_eq_extractStridedSlice S1 L _ (fun _ => num' p) _ hoff (fun a => by rw [wrap_word]; exact word_toInt p)]
  funext j
  rw [shapeCast_apply _ _ j (ix1 (0 : Fin 1)) rfl]
  refine extractStridedSlice_apply _ _ _ _ p (fun a => ?_)
  match a with
  | 0 => rfl

/-- The box at a place's number. -/
theorem boxAt_word (B : FVec Ideal S20000x4 .f32) (k : Fin 4) : boxAt B (fun _ => word p) (ix1 k) = B (cell p k) := by
  have hoff : S20000x4.Slices (![num' p, 0]) S1x4 := ⟨rfl, fun a => by
    match a with
    | 0 => show num' p + 1 ≤ 20000; have := num'_lt p; omega
    | 1 => show 0 + 4 ≤ 4; omega⟩
  unfold boxAt
  rw [Host.dynamicSlice_eq_extractStridedSlice S1x4 B _ (![num' p, 0]) _ hoff (fun a => by
    match a with
    | 0 => show (wrap (fun _ => word p) (Shape.Idx.first h_S_)).toInt = _; rw [wrap_word]; exact word_toInt p
    | 1 => rfl)]
  rw [shapeCast_apply _ _ (ix1 k) (ix2 (0 : Fin 1) k) (by
    rw [Shape.rowMajor_val_one, Shape.rowMajor_val_two]
    show 0 * 4 + k.val = k.val
    omega)]
  refine extractStridedSlice_apply _ _ _ _ (cell p k) (fun a => ?_)
  match a with
  | 0 => rfl
  | 1 => show k.val = 0 + k.val; omega

end Picked

/-! ## Corners and columns -/

theorem corner0_apply (b : FVec Ideal S4 .f32) (j : S_.Idx) : corner0 b j = b (ix1 (0 : Fin 4)) := by
  unfold corner0
  rw [shapeCast_apply _ _ j (ix1 (0 : Fin 1)) rfl]
  exact extractStridedSlice_apply _ _ _ _ _ (fun a => match a with | 0 => rfl)
theorem corner1_apply (b : FVec Ideal S4 .f32) (j : S_.Idx) : corner1 b j = b (ix1 (1 : Fin 4)) := by
  unfold corner1
  rw [shapeCast_apply _ _ j (ix1 (0 : Fin 1)) rfl]
  exact extractStridedSlice_apply _ _ _ _ _ (fun a => match a with | 0 => rfl)
theorem corner2_apply (b : FVec Ideal S4 .f32) (j : S_.Idx) : corner2 b j = b (ix1 (2 : Fin 4)) := by
  unfold corner2
  rw [shapeCast_apply _ _ j (ix1 (0 : Fin 1)) rfl]
  exact extractStridedSlice_apply _ _ _ _ _ (fun a => match a with | 0 => rfl)
theorem corner3_apply (b : FVec Ideal S4 .f32) (j : S_.Idx) : corner3 b j = b (ix1 (3 : Fin 4)) := by
  unfold corner3
  rw [shapeCast_apply _ _ j (ix1 (0 : Fin 1)) rfl]
  exact extractStridedSlice_apply _ _ _ _ _ (fun a => match a with | 0 => rfl)

/-- A column of the boxes, cut out and laid flat. -/
theorem column_apply (B : FVec Ideal S20000x4 .f32) (k : Fin 4) (h : S20000x4.Slices ![0, k.val] S20000x1) (h' : S20000x1.ShapeCasts S20000) (n : S20000.Idx) :
    shapeCast S20000 (extractStridedSlice S20000x1 ![0, k.val] B h) h' n = B (cell n k) := by
  rw [shapeCast_apply _ _ n (ix2 (⟨num' n, num'_lt n⟩ : Fin 20000) (0 : Fin 1)) (by
    rw [Shape.rowMajor_val_one, Shape.rowMajor_val_two]
    show num' n * 1 + 0 = num' n
    omega)]
  refine extractStridedSlice_apply _ _ _ _ (cell n k) (fun a => ?_)
  match a with
  | 0 => show num' n = 0 + num' n; omega
  | 1 => rfl

/-! ## The test -/

/-- The reference's test of the boxes of two places. -/
def Over (B : FVec Ideal S20000x4 .f32) (p n : S20000.Idx) : Prop :=
  Iou.Test (B (cell p 0)) (B (cell p 1)) (B (cell p 2)) (B (cell p 3)) (B (cell n 0)) (B (cell n 1)) (B (cell n 2)) (B (cell n 3))

theorem quot_word (B : FVec Ideal S20000x4 .f32) (p n : S20000.Idx) :
    quot B (boxAt B (fun _ => word p)) (meet B (boxAt B (fun _ => word p))) n = 1#1 ↔ Over B p n := by
  have c0 : ∀ j, corner0 (boxAt B (fun _ => word p)) j = B (cell p 0) := fun j => by rw [corner0_apply, boxAt_word]
  have c1 : ∀ j, corner1 (boxAt B (fun _ => word p)) j = B (cell p 1) := fun j => by rw [corner1_apply, boxAt_word]
  have c2 : ∀ j, corner2 (boxAt B (fun _ => word p)) j = B (cell p 2) := fun j => by rw [corner2_apply, boxAt_word]
  have c3 : ∀ j, corner3 (boxAt B (fun _ => word p)) j = B (cell p 3) := fun j => by rw [corner3_apply, boxAt_word]
  have d0 : column0 B n = B (cell n 0) := column_apply B 0 _ _ n
  have d1 : column1 B n = B (cell n 1) := column_apply B 1 _ _ n
  have d2 : column2 B n = B (cell n 2) := column_apply B 2 _ _ n
  have d3 : column3 B n = B (cell n 3) := column_apply B 3 _ _ n
  generalize boxAt B (fun _ => word p) = b at *
  have z : (constant S_ .f32 0x00000000#32 : FVec Ideal S_ .f32) = fun _ => (0 : EReal) := by
    funext j; exact Ideal.ofBits_zero_f32
  have hm : (meet B b n : EReal) = Iou.meetE (B (cell p 0)) (B (cell p 1)) (B (cell p 2)) (B (cell p 3)) (B (cell n 0)) (B (cell n 1)) (B (cell n 2)) (B (cell n 3)) := by
    rw [← d0, ← d1, ← d2, ← d3]
    unfold meet
    rw [z]
    show max (0 : EReal) (min (corner2 b _) (column2 B n) - max (corner0 b _) (column0 B n)) * max (0 : EReal) (min (corner3 b _) (column3 B n) - max (corner1 b _) (column1 B n)) = _
    rw [c0, c1, c2, c3]
    rfl
  unfold Over Iou.Test
  rw [← hm, ← d0, ← d1, ← d2, ← d3]
  show BitVec.ofBool (decide (Ideal.ofBits .f32 0x3F000000#32
      < Ideal.div (meet B b n) (((((corner2 b _ : EReal) - corner0 b _) * ((corner3 b _ : EReal) - corner1 b _) + ((column2 B n : EReal) - column0 B n) * ((column3 B n : EReal) - column1 B n)) - meet B b n) + Ideal.ofBits .f32 0x3089705F#32))) = 1#1 ↔ _
  rw [c0, c1, c2, c3]
  by_cases hlt : Ideal.ofBits .f32 0x3F000000#32
      < Ideal.div (meet B b n) ((((B (cell p 2) - B (cell p 0)) * (B (cell p 3) - B (cell p 1)) + ((column2 B n : EReal) - column0 B n) * ((column3 B n : EReal) - column1 B n)) - meet B b n) + Ideal.ofBits .f32 0x3089705F#32)
  · exact ⟨fun _ => hlt, fun _ => by rw [decide_eq_true hlt]; rfl⟩
  · exact ⟨fun h => absurd h (by rw [decide_eq_false hlt]; decide), fun h => absurd h hlt⟩

/-! ## The live scores and the flag -/

/-- One update at one index, kept whole. -/
theorem scatter_word (p n : S20000.Idx) (x : FVec Ideal S20000 .f32) (v : FVec Ideal S_ .f32) :
    Host.scatter scatter_S20000_S1_S__n_0_0_0 (fun _ b => b) x (broadcastInDim S1 ![] bcast_S_S1 (fun _ : S_.Idx => word p)) v n
      = if n = p then v (Shape.Idx.first h_S_) else x n := by
  have hr : ∀ j, (scatter_S20000_S1_S__n_0_0_0).resultIdx? j (broadcastInDim S1 ![] bcast_S_S1 (fun _ : S_.Idx => word p)) = some p := fun j => by
    have hs : ∀ a, (scatter_S20000_S1_S__n_0_0_0).start j (broadcastInDim S1 ![] bcast_S_S1 (fun _ : S_.Idx => word p)) a = num' p := fun a => by
      match a with
      | 0 => exact word_toInt p
    have hw : ∀ a, (scatter_S20000_S1_S__n_0_0_0).window j a = 0 := fun a => by
      match a with
      | 0 => rfl
    have hp := num'_lt p
    unfold ScatterDims.resultIdx?
    rw [dif_pos (fun a => by
      rw [hs, hw]
      match a with
      | 0 => exact ⟨by omega, by show (num' p : Int) + 0 < 20000; omega⟩)]
    refine congrArg some (funext fun a => Fin.ext ?_)
    show ((scatter_S20000_S1_S__n_0_0_0).start j _ a + (scatter_S20000_S1_S__n_0_0_0).window j a).toNat = _
    rw [hs, hw]
    match a with
    | 0 => show ((num' p : Int) + 0).toNat = num' p; omega
  unfold Host.scatter
  have hn : (List.finRange S_.numel) = [⟨0, by decide⟩] := rfl
  rw [hn]
  simp only [List.foldl_cons, List.foldl_nil, hr]
  congr 1
  exact congrArg v (funext fun a => a.elim0)

/-- A trip fills the places that its pick's box overlaps. -/
theorem liveNext_fills {B : FVec Ideal S20000x4 .f32} {p : S20000.Idx} (hself : Over B p p) (L : FVec Ideal S20000 .f32) :
    Fills (α := EReal) N (Over B p) L (liveNext (constant S_ .f32 0xF149F2CA#32) B L fun _ => word p) := by
  have h : ∀ n, liveNext (constant S_ .f32 0xF149F2CA#32) B L (fun _ => word p) n
      = if n = p then N else if quot B (boxAt B (fun _ => word p)) (meet B (boxAt B (fun _ => word p))) n = 1#1 then N else L n := fun n => by
    unfold liveNext
    rw [wrap_word, scatter_word]
    rfl
  refine ⟨fun n hn => ?_, fun n hn => ?_⟩
  · rw [h, if_pos ((quot_word B p n).2 hn), ite_self]
  · rw [h, if_neg (fun e => hn (by rw [e]; exact hself)), if_neg (fun e => hn ((quot_word B p n).1 e))]

/-- The flag of a pick. -/
theorem isLive_word (L : FVec Ideal S20000 .f32) (p : S20000.Idx) :
    isLive (constant S_ .f32 0xF149F2CA#32) L (fun _ => word p) = fun _ => BitVec.ofBool (decide (Bar < (L p : EReal))) := by
  funext j
  unfold isLive
  rw [scoreAt_word]
  show BitVec.ofBool (decide (N * Ideal.ofBits .f32 0x3F000000#32 < (L p : EReal))) = _
  rw [Consts.N_mul_half]

end Cert.Proof.Ref
end
end
-- ==== Proof.RefRows.lean ====
/- The rows that the reference records, and the result that it gathers from them, read at a place. -/
module

public import proofs.«01_k».proof.Proof.RefElem
public import Idealize.ShloMosaic.Lib.StableHlo.Predicate
public import Idealize.ShloMosaic.Lib.Pointwise.SelectCore

@[expose] public section

noncomputable section

namespace Cert.Proof.Ref

open Cert.ReferenceIdeal Cert.ReferenceIdeal.Gen
open Idealize.ShloMosaic hiding ix1 ix2
open Idealize.ShloMosaic.ValueIdx

/-- A record changes the row that the counter names. -/
theorem record_apply {α : Type} (x : S300.Idx → α) (v : α) (k : IVec S_ 32) (n : ℕ) (hn : n < 300)
    (hk : (k (Shape.Idx.first h_S_)).toInt = n) (r : Fin 300) :
    record x (fun _ => v) k (ix1 r) = if r.val = n then v else x (ix1 r) := by
  have hoff : S300.Slices (fun _ => n) S1 := ⟨rfl, fun a => by
    match a with
    | 0 => show n + 1 ≤ 300; omega⟩
  unfold record
  rw [Host.dynamicUpdateSlice_eq_updateSlice x _ _ _ (fun _ => n) (fun a => by
    match a with
    | 0 => rw [hk]; show (min (max (n : Int) 0) ((300 - 1 : ℕ) : Int)).toNat = n; omega) hoff]
  unfold updateSlice
  by_cases h : r.val = n
  · rw [dif_pos (fun a => by
      match a with
      | 0 => show n ≤ r.val ∧ r.val < n + 1; omega), if_pos h]
    rfl
  · rw [dif_neg (fun hall => h (by
      have : n ≤ r.val ∧ r.val < n + 1 := hall 0
      omega)), if_neg h]

section Result
variable {B : FVec Ideal S20000x4 .f32} {M : FVec Ideal S20000 .f32} {i : IVec S300 32} {f : IVec S300 1} {r : Fin 300} {p : S20000.Idx}

/-- A recorded pick is not negative. -/
theorem wraps_word (hi : i (ix1 r) = word p) : wraps i (ix1 r) = word p := by
  have := select_slt_zero_of_nonneg i (addi i (broadcastInDim S300 ![] bcast_S_S300 (constantI S_ 32 20000#32))) i (ix1 r)
    (by rw [hi, word_toInt]; omega)
  exact this.trans hi

/-- The picks as a column. -/
theorem wraps_col (hi : i (ix1 r) = word p) (k : S300x1.Idx) (hk : k 0 = r) :
    broadcastInDim S300x1 ![0] bcast_S300_S300x1_0 (wraps i) k = word p := by
  rw [← wraps_word hi]
  subst hk
  refine congrArg (wraps i) (funext fun a => ?_)
  match a with
  | 0 => rfl

/-- The gathered box. -/
theorem gather_box (hi : i (ix1 r) = word p) (j : Fin 4) :
    Host.gather gather_S20000x4_S300x1_S300x4_1_0_n_n_0_1_14 B (broadcastInDim S300x1 ![0] bcast_S300_S300x1_0 (wraps i)) (ix2 r j) = B (cell p j) := by
  unfold Host.gather
  refine congrArg B (funext fun a => Fin.ext ?_)
  show (gather_S20000x4_S300x1_S300x4_1_0_n_n_0_1_14).start (ix2 r j) _ a + (gather_S20000x4_S300x1_S300x4_1_0_n_n_0_1_14).batchCoord (ix2 r j) a
    + (gather_S20000x4_S300x1_S300x4_1_0_n_n_0_1_14).offCoord (ix2 r j) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ (gather_S20000x4_S300x1_S300x4_1_0_n_n_0_1_14).startIndexMap from List.mem_singleton.mpr rfl), wraps_col hi _ rfl, word_toInt]
    show min (num' p : Int).toNat (20000 - 1) + 0 + 0 = num' p
    have := num'_lt p
    omega
  | 1 =>
    unfold GatherDims.start
    rw [dif_neg (by show (1 : Fin 2) ∉ [(0 : Fin 2)]; decide)]
    show 0 + 0 + j.val = j.val
    omega

/-- The gathered score. -/
theorem gather_score (hi : i (ix1 r) = word p) :
    Host.gather gather_S20000_S300x1_S300_n_0_n_n_0_1_1 M (broadcastInDim S300x1 ![0] bcast_S300_S300x1_0 (wraps i)) (ix1 r) = M p := by
  unfold Host.gather
  refine congrArg M (funext fun a => Fin.ext ?_)
  show (gather_S20000_S300x1_S300_n_0_n_n_0_1_1).start (ix1 r) _ a + (gather_S20000_S300x1_S300_n_0_n_n_0_1_1).batchCoord (ix1 r) a
    + (gather_S20000_S300x1_S300_n_0_n_n_0_1_1).offCoord (ix1 r) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 1) ∈ (gather_S20000_S300x1_S300_n_0_n_n_0_1_1).startIndexMap from List.mem_singleton.mpr rfl), wraps_col hi _ rfl, word_toInt]
    show min (num' p : Int).toNat (20000 - 1) + 0 + 0 = num' p
    have := num'_lt p
    omega

/-- The number a flag is. -/
theorem flag_apply {P : Prop} [Decidable P] (hf : f (ix1 r) = BitVec.ofBool (decide P)) :
    (uitofp .f32 f (ix1 r) : Ideal .f32) = if P then (1 : EReal) else 0 := by
  show (((f (ix1 r)).toNat : ℝ) : EReal) = _
  rw [hf]
  by_cases h : P
  · rw [if_pos h, decide_eq_true h]; simp
  · rw [if_neg h, decide_eq_false h]; simp

/-- A row of the result of the reference: a box and its score, or zeros. -/
def rowAt (B : FVec Ideal S20000x4 .f32) (M : FVec Ideal S20000 .f32) (j : Fin 5) : Option S20000.Idx → EReal
  | some p => if h : j.val < 4 then B (cell p ⟨j.val, h⟩) else M p
  | none => 0

/-- A row of the result, of a pick and its flag. -/
theorem result_apply {P : Prop} [Decidable P] (hi : i (ix1 r) = word p) (hf : f (ix1 r) = BitVec.ofBool (decide P)) (j : Fin 5) :
    result B M i f (ix2 r j) = rowAt B M j (if P then some p else none) := by
  have hfl := flag_apply hf
  have hrow : rowAt B M j (if P then some p else none) = (if h : j.val < 4 then (B (cell p ⟨j.val, h⟩) : EReal) else M p) * (if P then (1 : EReal) else 0) := by
    by_cases h : P
    · rw [if_pos h, if_pos h, mul_one]; rfl
    · rw [if_neg h, if_neg h, mul_zero]; rfl
  rw [hrow]
  unfold result
  by_cases h : j.val < 4
  · rw [dif_pos h]
    refine (concatenate_pair_apply_left (t := S300x5) (s₁ := S300x4) (s₂ := S300x1) 1 _ _ concatenates_S300x4_S300x1_S300x5_d1 (ix2 r j) rfl (ix2 r ⟨j.val, h⟩) (fun b => by
      match b with
      | 0 => rfl
      | 1 => rfl)).trans ?_
    refine Eq.trans (b := (Host.gather gather_S20000x4_S300x1_S300x4_1_0_n_n_0_1_14 B (broadcastInDim S300x1 ![0] bcast_S300_S300x1_0 (wraps i)) (ix2 r ⟨j.val, h⟩) : EReal)
      * (uitofp .f32 f (ix1 r) : Ideal .f32)) ?_ (by rw [gather_box hi, hfl])
    refine congrArg (fun k => (Host.gather gather_S20000x4_S300x1_S300x4_1_0_n_n_0_1_14 B (broadcastInDim S300x1 ![0] bcast_S300_S300x1_0 (wraps i)) (ix2 r ⟨j.val, h⟩) : EReal)
      * (uitofp .f32 f k : Ideal .f32)) (funext fun a => ?_)
    match a with
    | 0 => rfl
  · have hj : j.val = 4 := by omega
    rw [dif_neg h]
    refine (concatenate_pair_apply_right (t := S300x5) (s₁ := S300x4) (s₂ := S300x1) 1 _ _ concatenates_S300x4_S300x1_S300x5_d1 (ix2 r j) rfl rfl (ix2 r (0 : Fin 1)) (fun b hb => by
      match b with
      | 0 => rfl
      | 1 => exact absurd rfl hb) (by show 0 + 4 = j.val; omega)).trans ?_
    refine Eq.trans (b := (Host.gather gather_S20000_S300x1_S300_n_0_n_n_0_1_1 M (broadcastInDim S300x1 ![0] bcast_S300_S300x1_0 (wraps i)) (ix1 r) : EReal)
      * (uitofp .f32 f (ix1 r) : Ideal .f32)) ?_ (by rw [gather_score hi, hfl])
    refine congrArg (fun k => (Host.gather gather_S20000_S300x1_S300_n_0_n_n_0_1_1 M (broadcastInDim S300x1 ![0] bcast_S300_S300x1_0 (wraps i)) k : EReal)
      * (uitofp .f32 f k : Ideal .f32)) (funext fun a => ?_)
    match a with
    | 0 => rfl

end Result

end Cert.Proof.Ref
end
end
-- ==== Proof.RefLoop.lean ====
/- The reference's loop on the exact reals: its trips are the steps of the selection, and its result holds their picks. -/
module

public import proofs.«01_k».proof.Proof.RefRows
public import proofs.«01_k».proof.Proof.RefFrame

@[expose] public section

noncomputable section

namespace Cert.Proof.Ref

open Cert.ReferenceIdeal Cert.ReferenceIdeal.Gen
open Idealize.ShloMosaic hiding ix1 ix2
open Idealize.ShloMosaic.TcCoe Idealize.ShloMosaic.Tactic
open Idealize.ShloMosaic.ValueIdx
open Idealize.ShloMosaic.StableHlo (after)
open Cert.Proof.Select (IsPick Fills Step)
open Cert.Proof.Consts (N Bar)

variable (m : (ℓ : Loc nD τ sig) → Buf (Elt Ideal) ℓ) (c : Dev nD)

/-- The boxes of the launch. -/
abbrev boxes : FVec Ideal S20000x4 .f32 := m ((c.tc : Thread nD τ).loc main_arg0)
/-- The scores of the launch. -/
abbrev scores : FVec Ideal S20000 .f32 := m ((c.tc : Thread nD τ).loc main_arg1)
/-- The live scores before a trip. -/
def live (k : ℕ) : FVec Ideal S20000 .f32 := At m k c (Proc.devRef .tc main_v2_3)

theorem live_zero : live m c 0 = scores m c := At_zero_live m c

theorem At_neg : ∀ k, At m k c (Proc.devRef .tc main_v2_0) = (constant S_ .f32 0xF149F2CA#32 : FVec Ideal S_ .f32)
  | 0 => At_zero_neg m c
  | k + 1 => (trip_neg (At m k c)).trans (At_neg k)

theorem At_boxes : ∀ k, At m k c (Proc.devRef .tc main_v2_1) = boxes m c
  | 0 => At_zero_boxes m c
  | k + 1 => (trip_boxes (At m k c)).trans (At_boxes k)

/-- The pick of a trip. -/
def pick (k : ℕ) : S20000.Idx := (best_spec (live m c k)).choose

theorem pick_isPick (k : ℕ) : IsPick num' (α := EReal) (live m c k) (pick m c k) := (best_spec (live m c k)).choose_spec.1

theorem best_live (k : ℕ) : best (F := Ideal) (At m k c (Proc.devRef .tc main_v2_3)) = fun _ => word (pick m c k) := (best_spec (live m c k)).choose_spec.2

/-- The pick of a trip, if its score is live. -/
def chosen (k : ℕ) : Option S20000.Idx := if Bar < (live m c k (pick m c k) : EReal) then some (pick m c k) else none

/-- ONE TRIP is one step of the selection. -/
theorem step (hself : ∀ p, Over (boxes m c) p p) (k : ℕ) :
    Step num' (α := EReal) Bar N (Over (boxes m c)) (live m c k) (live m c (k + 1)) (chosen m c k) := by
  refine Select.step_of_pick Consts.N_le_Bar (pick_isPick m c k) ?_
  have e : live m c (k + 1) = liveNext (constant S_ .f32 0xF149F2CA#32) (boxes m c) (live m c k) (fun _ => word (pick m c k)) := by
    refine (trip_live (At m k c)).trans ?_
    rw [At_neg, At_boxes, best_live]
    rfl
  rw [e]
  exact liveNext_fills (hself _) _

/-- The counter before a trip. -/
theorem ctr_toInt (k : ℕ) (hk : k < 300) : ((At m k c (Proc.devRef .tc main_v2_2) : IVec S_ 32) (Shape.Idx.first h_S_)).toInt = k := by
  rw [ctr]
  show (Scf.iv 0#32 1#32 k).toInt = k
  rw [Scf.iv_eq_ofInt, BitVec.toInt_ofInt]
  have e0 : (0#32).toInt = 0 := rfl
  have e1 : (1#32).toInt = 1 := rfl
  rw [e0, e1, Int.bmod_eq_of_le] <;> omega

/-- The rows that the trips have recorded. -/
theorem recorded : ∀ k, k ≤ 300 → ∀ r : Fin 300, r.val < k →
    (At m k c (Proc.devRef .tc main_v2_4) : IVec S300 32) (ix1 r) = word (pick m c r.val)
      ∧ (At m k c (Proc.devRef .tc main_v2_5) : IVec S300 1) (ix1 r) = BitVec.ofBool (decide (Bar < (live m c r.val (pick m c r.val) : EReal)))
  | 0, _, _, h => absurd h (Nat.not_lt_zero _)
  | k + 1, hk, r, h => by
    have e4 : At m (k + 1) c (Proc.devRef .tc main_v2_4) = record (At m k c (Proc.devRef .tc main_v2_4) : IVec S300 32) (fun _ => word (pick m c k)) (At m k c (Proc.devRef .tc main_v2_2)) := by
      refine (trip_picks (At m k c)).trans ?_
      rw [best_live]
    have e5 : At m (k + 1) c (Proc.devRef .tc main_v2_5)
        = record (At m k c (Proc.devRef .tc main_v2_5) : IVec S300 1) (fun _ => BitVec.ofBool (decide (Bar < (live m c k (pick m c k) : EReal)))) (At m k c (Proc.devRef .tc main_v2_2)) := by
      refine (trip_flags (At m k c)).trans ?_
      rw [best_live, At_neg, isLive_word]
      rfl
    rw [e4, e5, record_apply _ _ _ k (by omega) (ctr_toInt m c k (by omega)), record_apply _ _ _ k (by omega) (ctr_toInt m c k (by omega))]
    by_cases hr : r.val = k
    · rw [if_pos hr, if_pos hr, hr]
      exact ⟨rfl, rfl⟩
    · rw [if_neg hr, if_neg hr]
      exact recorded k (by omega) r (by omega)

/-- THE RESULT. A row holds the box and the score of its trip's pick, or zeros. -/
theorem result_row (r : Fin 300) (j : Fin 5) :
    (after postOps (after condOps (At m 300 c)) (Proc.devRef .tc main_v23) : FVec Ideal S300x5 .f32) (ix2 r j)
      = rowAt (boxes m c) (scores m c) j (chosen m c r.val) := by
  have h := recorded m c 300 le_rfl r r.isLt
  rw [post_result, At_arg0, At_arg1]
  exact result_apply h.1 h.2 j

end Cert.Proof.Ref
end
end
-- ==== Proof.Value.lean ====
/- The kernel and the reference end with equal results. -/
module

public import proofs.«01_k».proof.Proof.KerOut
public import proofs.«01_k».proof.Proof.Boxes
public import proofs.«01_k».proof.Proof.Match
public import proofs.«01_k».proof.Proof.RefLoop

@[expose] public section

noncomputable section

namespace Cert.Proof.Value

open Idealize.ShloMosaic Idealize.ShloMosaic.TcCoe
open Cert.KernelIdeal (S20000 S20000x4 S_ S300x5 cfgs)
open Cert.KernelIdeal.Gen
open Cert.Proof.Consts Cert.Proof.Select Cert.Proof.Nms
open Cert.Proof.Boxes (cell)

/-- The place of the planes that holds box `n`. -/
def place (n : S20000.Idx) : Place :=
  ValueIdx.ix2 (⟨(n 0).val / 128, by have : (n 0).val < 20000 := (n 0).isLt; omega⟩ : Fin 160) (⟨(n 0).val % 128, by omega⟩ : Fin 128)

theorem num_place (n : S20000.Idx) : num (place n) = Ref.num' n := by
  show 128 * ((n 0).val / 128) + (n 0).val % 128 = (n 0).val
  omega

/-- A place holds a box or padding. -/
theorem place_or (q : Place) : (∃ n, place n = q) ∨ 20000 ≤ num q := by
  by_cases h : num q < 20000
  · refine .inl ⟨ValueIdx.ix1 (⟨num q, h⟩ : Fin 20000), num_injective ?_⟩
    rw [num_place]; rfl
  · exact .inr (not_lt.1 h)

section
variable (B : FVec Ideal S20000x4 .f32) (s : FVec Ideal S20000 .f32)

/-- The planes of the coordinates and of the scores. -/
abbrev X0 : Plane Ideal := laid (columnOf B 0 slices_S20000x4_S20000x1_0_0) zeroPad
abbrev X1 : Plane Ideal := laid (columnOf B 1 slices_S20000x4_S20000x1_0_1) zeroPad
abbrev X2 : Plane Ideal := laid (columnOf B 2 slices_S20000x4_S20000x1_0_2) zeroPad
abbrev X3 : Plane Ideal := laid (columnOf B 3 slices_S20000x4_S20000x1_0_3) zeroPad
abbrev Sc : Plane Ideal := laid s (constant S_ .f32 0xF149F2CA#32)

theorem laid_place (k : Fin 4) (h : S20000x4.Slices ![0, k.val] Cert.KernelIdeal.S20000x1) (n : S20000.Idx) :
    laid (columnOf B k h) zeroPad (place n) = B (cell n k) :=
  (laid_in _ _ _ n (num_place n)).trans (columnOf_apply B k h n)

theorem laid_pad (k : Fin 4) (h : S20000x4.Slices ![0, k.val] Cert.KernelIdeal.S20000x1) {q : Place} (hq : 20000 ≤ num q) :
    laid (columnOf B k h) zeroPad q = (0 : EReal) :=
  (laid_out _ _ _ hq).trans (zeroPad_eq _)

theorem score_pad {q : Place} (hq : 20000 ≤ num q) : Sc s q = N := laid_out _ _ _ hq

/-- The scores of the planes and of the list agree. -/
theorem agree_scores : Agree (α := EReal) place Bar (Sc s) s := by
  refine .inl ⟨fun n => laid_in _ _ _ n (num_place n), fun q hq => ?_⟩
  rcases place_or q with ⟨n, e⟩ | h
  · exact absurd e (hq n)
  · rw [score_pad s h]; exact N_le_Bar

variable [Cert.Pre_proper_boxes.Facts] {B s}
  (h : (Cert.Pre_proper_boxes.fn (F := Ideal) B s).1 = (fun _ => 1#1) ∧ (Cert.Pre_proper_boxes.fn (F := Ideal) B s).2 = (fun _ => 1#1))
include h

/-- No coordinate of a plane is below the fill value. -/
theorem plane_range (k : Fin 4) (hk : S20000x4.Slices ![0, k.val] Cert.KernelIdeal.S20000x1) (q : Place) : N ≤ (laid (columnOf B k hk) zeroPad q : EReal) := by
  rcases place_or q with ⟨n, rfl⟩ | hq
  · rw [laid_place]; exact (Boxes.range h n k).1
  · rw [laid_pad B k hk hq]; exact N_le_zero

/-- The two overlap tests agree on boxes. -/
theorem over_place (n k : S20000.Idx) : Ov (X0 B) (X1 B) (X2 B) (X3 B) (place n) (place k) ↔ Ref.Over B n k := by
  obtain ⟨p0, p1, p2, p3, hp⟩ := Boxes.proper h n
  obtain ⟨q0, q1, q2, q3, hq⟩ := Boxes.proper h k
  have e0 (i) : X0 B (place i) = B (cell i 0) := laid_place B 0 _ i
  have e1 (i) : X1 B (place i) = B (cell i 1) := laid_place B 1 _ i
  have e2 (i) : X2 B (place i) = B (cell i 2) := laid_place B 2 _ i
  have e3 (i) : X3 B (place i) = B (cell i 3) := laid_place B 3 _ i
  unfold Ov
  rw [e0, e1, e2, e3, e0, e1, e2, e3]
  exact Iou.over_iff_test hp hq

/-- Every box overlaps itself. -/
theorem over_self (n : S20000.Idx) : Ref.Over B n n := by
  obtain ⟨p0, p1, p2, p3, hp⟩ := Boxes.proper h n
  exact Iou.test_self hp

/-- A live place of the planes overlaps itself. -/
theorem plane_self (q : Place) (hq : Bar < (Sc s q : EReal)) : Ov (X0 B) (X1 B) (X2 B) (X3 B) q q := by
  rcases place_or q with ⟨n, rfl⟩ | hn
  · exact (over_place h n n).2 (over_self h n)
  · rw [score_pad s hn] at hq
    exact absurd hq (not_lt.2 N_le_Bar)

/-- A row of the kernel is the row of a selection over the boxes, number by number. -/
theorem part_row {M : ℕ → S20000.Idx → EReal} {os : ℕ → Option S20000.Idx} (h0 : M 0 = s)
    (hs : ∀ k, Step (α := EReal) Ref.num' Bar N (Ref.Over B) (M k) (M (k + 1)) (os k)) (r : ℕ) (j : Fin 5) :
    part (outRow (X0 B) (X1 B) (X2 B) (X3 B) (Sc s) r) j = Ref.rowAt B s j (os r) := by
  rw [outRow_match (fun q => ⟨plane_range h 0 _ q, plane_range h 1 _ q, plane_range h 2 _ q, plane_range h 3 _ q⟩) (plane_self h) num_place (over_place h) hs
    (h0 ▸ agree_scores s) r]
  cases os r with
  | none =>
    match j with
    | 0 => rfl
    | 1 => rfl
    | 2 => rfl
    | 3 => rfl
    | 4 => rfl
  | some n =>
    match j with
    | 0 => exact laid_place B 0 _ n
    | 1 => exact laid_place B 1 _ n
    | 2 => exact laid_place B 2 _ n
    | 3 => exact laid_place B 3 _ n
    | 4 => exact laid_in _ _ _ n (num_place n)
end

section
variable [Cert.Pre_proper_boxes.Facts]
  (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- THE RESULTS ARE EQUAL. On equal arguments that meet the precondition the kernel's result is the reference's. -/
theorem results_eq (hB : Ref.boxes m' c = kboxes m c) (hS : Ref.scores m' c = kscores m c)
    (h : (Cert.Pre_proper_boxes.fn (F := Ideal) (kboxes m c) (kscores m c)).1 = (fun _ => 1#1)
      ∧ (Cert.Pre_proper_boxes.fn (F := Ideal) (kboxes m c) (kscores m c)).2 = (fun _ => 1#1)) :
    (StableHlo.after Ref.postOps (StableHlo.after Ref.condOps (Ref.At m' 300 c)) (Proc.devRef .tc Cert.ReferenceIdeal.main_v23) : FVec Ideal S300x5 .f32)
      = Pipeline.afterTail₀ cfgs (dats m) 0 (V0 m) [hostOps1] c Cert.KernelIdeal.main_v19 := by
  funext i
  obtain ⟨r, j, rfl⟩ : ∃ (r : Fin 300) (j : Fin 5), i = ValueIdx.ix2 r j := ⟨i 0, i 1, by
    funext a
    match a with
    | 0 => rfl
    | 1 => rfl⟩
  refine (Ref.result_row m' c r j).trans (Eq.trans ?_ (result_eq m c r j).symm)
  unfold rows
  rw [iblk_0, iblk_1, iblk_2, iblk_3, iblk_4]
  have hself : ∀ p, Ref.Over (Ref.boxes m' c) p p := fun p => by rw [hB]; exact over_self h p
  have hs := Ref.step m' c hself
  rw [hB] at hs
  rw [hB, hS]
  exact (part_row h (M := fun k => Ref.live m' c k) ((Ref.live_zero m' c).trans hS) hs r.val j).symm
end

end Cert.Proof.Value
end
end
-- ==== Proof.lean ====
/- The certificate: the kernel and the reference run, leave their arguments, and end with every counter at zero; and on boxes that
   meet the precondition they end with equal results. -/
module

public import proofs.«01_k».proof.Defs
public import proofs.«01_k».proof.Proof.Same
public import proofs.«01_k».proof.Proof.RefFrame
public import proofs.«01_k».proof.Proof.Value

@[expose] public section

noncomputable section

namespace Cert.Proof

open Idealize.ShloMosaic Idealize.SL.Sem

/-- The relations of shapes that the precondition's operations take. -/
theorem preFacts : Cert.Pre_proper_boxes.Facts :=
  ⟨by decide, by decide, by decide, by decide, by decide, by decide, by decide⟩

/-- The kernel and the reference end with equal results, and leave their arguments. -/
theorem equal : Cert.algebraic_KernelIdeal_ReferenceIdeal_pre_proper_boxes (hKernelIdeal := Cert.KernelIdeal.Gen.facts)
    (hReferenceIdeal := Cert.ReferenceIdeal.Gen.facts) (hPre_proper_boxes := preFacts) := by
  intro m g m' g' hpre hargs
  haveI := preFacts
  refine ⟨fun c => Pipeline.afterTail₀ Cert.KernelIdeal.cfgs (Nms.dats m) 0 (Cert.KernelIdeal.Gen.V0 m) [Cert.KernelIdeal.Gen.hostOps1] c Cert.KernelIdeal.main_v19, ?_, ?_⟩
  · exact (θ_run Cert.KernelIdeal.defs _ _).mono (fun r h c =>
      ⟨(h.1 c).2 Cert.KernelIdeal.main_v19 (Pipeline.mem_restRefs_of Cert.KernelIdeal.main_v19 (by decide) (by decide)),
        ((h.1 c).2 Cert.KernelIdeal.main_arg0 (Pipeline.mem_restRefs_of Cert.KernelIdeal.main_arg0 (by decide) (by decide))).trans (Cert.KernelIdeal.Gen.W_main_arg0 m (Nms.dats m) c),
        ((h.1 c).2 Cert.KernelIdeal.main_arg1 (Pipeline.mem_restRefs_of Cert.KernelIdeal.main_arg1 (by decide) (by decide))).trans (Cert.KernelIdeal.Gen.W_main_arg1 m (Nms.dats m) c)⟩)
      (Nms.run_main m g)
  · exact (θ_run Cert.ReferenceIdeal.defs _ _).mono (fun r h c =>
      ⟨(h c Cert.ReferenceIdeal.main_v23 rfl).trans (Value.results_eq m m' c (hargs c).1 (hargs c).2 (hpre c)),
        (h c Cert.ReferenceIdeal.main_arg0 rfl).trans ((Ref.post_arg0 _).trans (Ref.At_arg0 m' c 300)),
        (h c Cert.ReferenceIdeal.main_arg1 rfl).trans ((Ref.post_arg1 _).trans (Ref.At_arg1 m' c 300))⟩)
      (Ref.run m' g')

/-- Every claim of the certificate. -/
theorem claim : Cert.Claim :=
  ⟨Cert.Kernel.Gen.facts, Cert.KernelIdeal.Gen.facts, Cert.ReferenceIdeal.Gen.facts, preFacts,
    Same.quiet, fun m g _ => Nms.quiet m g, fun m g _ => Nms.quiet m g, fun m g _ => Ref.quiet m g, fun m g _ => Ref.quiet m g, trivial, equal⟩

end Cert.Proof

end
